-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 1024, 256, 128]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 1024, 256, 128]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x32768 : Shape := ⟨2, ![1024, 32768]⟩
abbrev S1x1024x8x128 : Shape := ⟨4, ![1, 1024, 8, 128]⟩
abbrev S32768x1024 : Shape := ⟨2, ![32768, 1024]⟩
abbrev S_ : Shape := ⟨0, ![]⟩
abbrev S1024x1024 : Shape := ⟨2, ![1024, 1024]⟩
abbrev S1024x8x128 : Shape := ⟨3, ![1024, 8, 128]⟩
abbrev S31x32x1024 : Shape := ⟨3, ![31, 32, 1024]⟩
abbrev S31 : Shape := ⟨1, ![31]⟩
abbrev S1024x128 : Shape := ⟨2, ![1024, 128]⟩
abbrev S1024x1x128 : Shape := ⟨3, ![1024, 1, 128]⟩
abbrev S1024 : Shape := ⟨1, ![1024]⟩
abbrev S1024x1 : Shape := ⟨2, ![1024, 1]⟩
abbrev S128x1024 : Shape := ⟨2, ![128, 1024]⟩
abbrev S1 : Shape := ⟨1, ![1]⟩
abbrev S1x32x1024 : Shape := ⟨3, ![1, 32, 1024]⟩
abbrev S32x1024 : Shape := ⟨2, ![32, 1024]⟩

abbrev nBuf : Space → Nat
  | .hbm => 34
  | .vmem => 7
  | .smem => 0
  | _ => 0

abbrev bufTy : (tb : Table) → Fin (tcTables nBuf tb) → BufTy
  | .hbm, ⟨0, _⟩ => ⟨S1x1024x1024, .f32⟩
  | .hbm, ⟨1, _⟩ => ⟨S1024x32768, .f32⟩
  | .hbm, ⟨2, _⟩ => ⟨S1x1024x8x128, .f32⟩
  | .hbm, ⟨3, _⟩ => ⟨S1x1024x8x128, .f32⟩
  | .hbm, ⟨4, _⟩ => ⟨S32768x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1024x1024, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1024x1024, .f32⟩
  | .hbm, ⟨29, _⟩ => ⟨S1024x1024, .f32⟩
  | .hbm, ⟨30, _⟩ => ⟨S1024x8x128, .f32⟩
  | .hbm, ⟨31, _⟩ => ⟨S1024x8x128, .f32⟩
  | .hbm, ⟨32, _⟩ => ⟨S1024x1024, .f32⟩
  | .hbm, ⟨33, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x8x128, .f32⟩
  | .local _ .vmem, ⟨3, _⟩ => ⟨S1024x8x128, .f32⟩
  | .local _ .vmem, ⟨4, _⟩ => ⟨S1024x1024, .f32⟩
  | .local _ .vmem, ⟨5, _⟩ => ⟨S1024x1024, .f32⟩
  | .local _ .vmem, ⟨6, _⟩ => ⟨S31x32x1024, .f32⟩
  | _, _ => ⟨S1x1024x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_8 : BitVec 32 := 1#32
  let v11 : BitVec 32 := Scalar.muli v4 c1_i32_8
  let v12 : BitVec 32 := Scalar.addi c0_i32_9 v11
  v12.toNat
@[reducible] def k0_t1_loop : Scf.Loop 32 :=
  let c0_i32_170 : BitVec 32 := 0#32
  let c31_i32 : BitVec 32 := 31#32
  let v250 : BitVec 32 := Scalar.addi c0_i32_170 c31_i32
  let c1_i32_171 : BitVec 32 := 1#32
  ⟨c0_i32_170, v250, c1_i32_171⟩
def k0_off1 (k0_t1 : Fin k0_t1_loop.trips) : Fin 1 → Nat :=
  let c0_i32_170 : BitVec 32 := 0#32
  let c1_i32_171 : BitVec 32 := 1#32
  let arg11 : BitVec 32 := Scf.iv c0_i32_170 c1_i32_171 k0_t1
  ![arg11.toNat]
def k0_off2 (k0_t1 : Fin k0_t1_loop.trips) : Fin 3 → Nat :=
  let c0_i32_170 : BitVec 32 := 0#32
  let c1_i32_171 : BitVec 32 := 1#32
  let arg11 : BitVec 32 := Scf.iv c0_i32_170 c1_i32_171 k0_t1
  let c0_i32_184 : BitVec 32 := 0#32
  let c0_i32_185 : BitVec 32 := 0#32
  ![arg11.toNat, 0, 0]
def k0_off3 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_177 : BitVec 32 := 32#32
  let v252 : BitVec 32 := Scalar.addi v2 c32_i32_177
  let c0_i32_170 : BitVec 32 := 0#32
  let c1_i32_171 : BitVec 32 := 1#32
  let arg11 : BitVec 32 := Scf.iv c0_i32_170 c1_i32_171 k0_t1
  let v253 : BitVec 32 := Scalar.subi v252 arg11
  let c32_i32_178 : BitVec 32 := 32#32
  let v254 : BitVec 32 := Scalar.remsi v253 c32_i32_178
  let c32_i32_181 : BitVec 32 := 32#32
  let v259 : BitVec 32 := Scalar.muli v254 c32_i32_181
  let c0_i32_186 : BitVec 32 := 0#32
  ![v259.toNat, 0]
def k0_dev3 (d0 : Dev nD) : Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_182 : BitVec 32 := 1#32
  let v260 : BitVec 32 := Scalar.muli v4 c1_i32_182
  let v261 : BitVec 32 := Scalar.addi c0_i32_183 v260
  v261.toNat
def k0_off4 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32 : BitVec 32 := 64#32
  let v255 : BitVec 32 := Scalar.addi v2 c64_i32
  let c0_i32_170 : BitVec 32 := 0#32
  let c1_i32_171 : BitVec 32 := 1#32
  let arg11 : BitVec 32 := Scf.iv c0_i32_170 c1_i32_171 k0_t1
  let v256 : BitVec 32 := Scalar.subi v255 arg11
  let c1_i32_179 : BitVec 32 := 1#32
  let v257 : BitVec 32 := Scalar.subi v256 c1_i32_179
  let c32_i32_180 : BitVec 32 := 32#32
  let v258 : BitVec 32 := Scalar.remsi v257 c32_i32_180
  let c32_i32_196 : BitVec 32 := 32#32
  let v281 : BitVec 32 := Scalar.muli v258 c32_i32_196
  let v282 : Index := Scalar.indexCast v281
  let c0_197 : Index := 0#32
  ![v282.toNat, 0]
def k0_off5 (k0_t1 : Fin k0_t1_loop.trips) : Fin 3 → Nat :=
  let c0_i32_170 : BitVec 32 := 0#32
  let c1_i32_171 : BitVec 32 := 1#32
  let arg11 : BitVec 32 := Scf.iv c0_i32_170 c1_i32_171 k0_t1
  let v285 : Index := Scalar.indexCast arg11
  let c0_198 : Index := 0#32
  let c0_199 : Index := 0#32
  ![v285.toNat, 0, 0]
@[reducible] def k0_t2_loop : Scf.Loop 32 :=
  let c0_i32_173 : BitVec 32 := 0#32
  let c31_i32_174 : BitVec 32 := 31#32
  let v251 : BitVec 32 := Scalar.addi c0_i32_173 c31_i32_174
  let c1_i32_175 : BitVec 32 := 1#32
  ⟨c0_i32_173, v251, c1_i32_175⟩
def k0_off6 (k0_t2 : Fin k0_t2_loop.trips) : Fin 1 → Nat :=
  let c0_i32_173 : BitVec 32 := 0#32
  let c1_i32_175 : BitVec 32 := 1#32
  let arg11 : BitVec 32 := Scf.iv c0_i32_173 c1_i32_175 k0_t2
  ![arg11.toNat]
def k0_off7 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32 : BitVec 32 := 64#32
  let v252 : BitVec 32 := Scalar.addi v2 c64_i32
  let c1_i32_177 : BitVec 32 := 1#32
  let v253 : BitVec 32 := Scalar.addi v252 c1_i32_177
  let c0_i32_173 : BitVec 32 := 0#32
  let c1_i32_175 : BitVec 32 := 1#32
  let arg11 : BitVec 32 := Scf.iv c0_i32_173 c1_i32_175 k0_t2
  let v254 : BitVec 32 := Scalar.subi v253 arg11
  let c32_i32_178 : BitVec 32 := 32#32
  let v255 : BitVec 32 := Scalar.remsi v254 c32_i32_178
  let c32_i32_182 : BitVec 32 := 32#32
  let v260 : BitVec 32 := Scalar.muli v255 c32_i32_182
  let c0_i32_185 : BitVec 32 := 0#32
  ![v260.toNat, 0]
def k0_dev4 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_183 : BitVec 32 := 1#32
  let v261 : BitVec 32 := Scalar.muli v4 c1_i32_183
  let v262 : BitVec 32 := Scalar.addi c0_i32_184 v261
  v262.toNat
def k0_off8 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_179 : BitVec 32 := 64#32
  let v256 : BitVec 32 := Scalar.addi v2 c64_i32_179
  let c0_i32_173 : BitVec 32 := 0#32
  let c1_i32_175 : BitVec 32 := 1#32
  let arg11 : BitVec 32 := Scf.iv c0_i32_173 c1_i32_175 k0_t2
  let v257 : BitVec 32 := Scalar.subi v256 arg11
  let c32_i32_180 : BitVec 32 := 32#32
  let v258 : BitVec 32 := Scalar.remsi v257 c32_i32_180
  let c32_i32_188 : BitVec 32 := 32#32
  let v270 : BitVec 32 := Scalar.muli v258 c32_i32_188
  let c0_i32_191 : BitVec 32 := 0#32
  ![v270.toNat, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x32768 : Shape := ⟨2, ![1024, 32768]⟩
abbrev S1x1024x256x128 : Shape := ⟨4, ![1, 1024, 256, 128]⟩
abbrev S32768x1024 : Shape := ⟨2, ![32768, 1024]⟩
abbrev S1x1024x32768 : Shape := ⟨3, ![1, 1024, 32768]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x256x1024x1024 : Shape := ⟨4, ![1, 256, 1024, 1024]⟩
abbrev S1x1x1024x1024 : Shape := ⟨4, ![1, 1, 1024, 1024]⟩
abbrev S1x256x1024 : Shape := ⟨3, ![1, 256, 1024]⟩
abbrev S1x256x1024x1 : Shape := ⟨4, ![1, 256, 1024, 1]⟩
abbrev S1x1x1024x1 : Shape := ⟨4, ![1, 1, 1024, 1]⟩
abbrev S1x256x128x1024 : Shape := ⟨4, ![1, 256, 128, 1024]⟩

abbrev nBuf : Space → Nat
  | .hbm => 57
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x32768, .f32⟩
  | .hbm, ⟨2, _⟩ => ⟨S1x1024x256x128, .f32⟩
  | .hbm, ⟨3, _⟩ => ⟨S1x1024x256x128, .f32⟩
  | .hbm, ⟨4, _⟩ => ⟨S32768x1024, .f32⟩
  | .hbm, ⟨5, _⟩ => ⟨S1x1024x32768, .f32⟩
  | .hbm, ⟨6, _⟩ => ⟨S1x1024x256x128, .f32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S1x256x1024x1024, .f32⟩
  | .hbm, ⟨19, _⟩ => ⟨S_, .f32⟩
  | .hbm, ⟨20, _⟩ => ⟨S1x256x1024x1024, .f32⟩
  | .hbm, ⟨21, _⟩ => ⟨S1x256x1024x1024, .f32⟩
  | .hbm, ⟨22, _⟩ => ⟨S1x1x1024x1024, .i1⟩
  | .hbm, ⟨23, _⟩ => ⟨S_, .f32⟩
  | .hbm, ⟨24, _⟩ => ⟨S_, .f32⟩
  | .hbm, ⟨25, _⟩ => ⟨S1x256x1024x1024, .i1⟩
  | .hbm, ⟨26, _⟩ => ⟨S1x256x1024x1024, .f32⟩
  | .hbm, ⟨27, _⟩ => ⟨S1x256x1024x1024, .f32⟩
  | .hbm, ⟨28, _⟩ => ⟨S_, .f32⟩
  | .hbm, ⟨29, _⟩ => ⟨S1x256x1024, .f32⟩
  | .hbm, ⟨30, _⟩ => ⟨S1x256x1024x1, .f32⟩
  | .hbm, ⟨31, _⟩ => ⟨S1x256x1024x1024, .f32⟩
  | .hbm, ⟨32, _⟩ => ⟨S1x256x1024x1024, .f32⟩
  | .hbm, ⟨33, _⟩ => ⟨S1x256x1024x1024, .f32⟩
  | .hbm, ⟨34, _⟩ => ⟨S_, .i1⟩
  | .hbm, ⟨35, _⟩ => ⟨S1024, .i1⟩
  | .hbm, ⟨36, _⟩ => ⟨S1x1x1024x1, .i1⟩
  | .hbm, ⟨37, _⟩ => ⟨S_, .f32⟩
  | .hbm, ⟨38, _⟩ => ⟨S1x256x1024, .f32⟩
  | .hbm, ⟨39, _⟩ => ⟨S1x256x1024x1, .f32⟩
  | .hbm, ⟨40, _⟩ => ⟨S_, .f32⟩
  | .hbm, ⟨41, _⟩ => ⟨S_, .f32⟩
  | .hbm, ⟨42, _⟩ => ⟨S1x256x1024x1, .i1⟩
  | .hbm, ⟨43, _⟩ => ⟨S1x256x1024x1, .f32⟩
  | .hbm, ⟨44, _⟩ => ⟨S1x256x1024x1, .f32⟩
  | .hbm, ⟨45, _⟩ => ⟨S1x256x1024x1024, .f32⟩
  | .hbm, ⟨46, _⟩ => ⟨S1x256x1024x1024, .f32⟩
  | .hbm, ⟨47, _⟩ => ⟨S1x1x1024x1, .i1⟩
  | .hbm, ⟨48, _⟩ => ⟨S_, .f32⟩
  | .hbm, ⟨49, _⟩ => ⟨S_, .f32⟩
  | .hbm, ⟨50, _⟩ => ⟨S1x256x1024x1024, .i1⟩
  | .hbm, ⟨51, _⟩ => ⟨S1x256x1024x1024, .f32⟩
  | .hbm, ⟨52, _⟩ => ⟨S1x256x1024x1024, .f32⟩
  | .hbm, ⟨53, _⟩ => ⟨S1x256x128x1024, .f32⟩
  | .hbm, ⟨54, _⟩ => ⟨S1x1024x256x128, .f32⟩
  | .hbm, ⟨55, _⟩ => ⟨S1x1024x32768, .f32⟩
  | .hbm, ⟨56, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Ring.lean ====
/- The ring of 32 devices: the neighbours a device reaches, the sets of devices at most so many steps away, and the
   chunks and slots the kernel's printed offsets name. -/
module

public import proofs.«01_k».proof.Proof.Gen.KernelIdeal.Launch
public import Idealize.ShloMosaic.Lib.Ring
public import Idealize.ShloMosaic.Lib.Memref

@[expose] public section

noncomputable section

namespace Cert.KernelIdeal.RingProof

open Idealize.ShloMosaic Idealize.ShloMosaic.TcCoe Idealize.ShloMosaic.Ring
open Cert.KernelIdeal Cert.KernelIdeal.Gen

/-! ## Steps around the ring -/

/-- The device `k` steps after `c`. -/
def up (c : Dev nD) (k : ℕ) : Dev nD := ⟨(c.val + k) % 32, Nat.mod_lt _ (by decide)⟩
/-- The device (or chunk) `k` steps before `c`. -/
def dn (c : Dev nD) (k : ℕ) : Dev nD := ⟨(c.val + 31 * k) % 32, Nat.mod_lt _ (by decide)⟩

theorem up_val (c : Dev nD) (k : ℕ) : (up c k).val = (c.val + k) % 32 := rfl
theorem dn_val (c : Dev nD) (k : ℕ) : (dn c k).val = (c.val + 31 * k) % 32 := rfl

theorem dn_up (c : Dev nD) (k : ℕ) : dn (up c k) k = c := by
  apply Fin.ext; have := c.isLt; rw [dn_val, up_val]; simp only [nD] at this; omega
theorem up_dn (c : Dev nD) (k : ℕ) : up (dn c k) k = c := by
  apply Fin.ext; have := c.isLt; rw [up_val, dn_val]; simp only [nD] at this; omega
theorem dn_dn (c : Dev nD) (j k : ℕ) : dn (dn c j) k = dn c (j + k) := by
  apply Fin.ext; simp only [dn_val]; omega
theorem dn_zero (c : Dev nD) : dn c 0 = c := by
  apply Fin.ext; have := c.isLt; simp only [dn_val, nD] at this ⊢; omega
theorem dn_up_succ (c : Dev nD) (k : ℕ) : dn (up c 1) (k + 1) = dn c k := by
  apply Fin.ext; simp only [dn_val, up_val]; omega
theorem dn_add_32 (c : Dev nD) (k : ℕ) : dn c (k + 32) = dn c k := by
  apply Fin.ext; simp only [dn_val]; omega
theorem dn_up_1_31 (c : Dev nD) : dn c 31 = up c 1 := by
  apply Fin.ext; simp only [dn_val, up_val]; omega

/-- The ring's rotation by one step, as a permutation of the devices. -/
def ring : Dev nD ≃ Dev nD := ⟨fun c => up c 1, fun c => dn c 1, fun c => dn_up c 1, fun c => up_dn c 1⟩

/-- The device after `c` is not `c`. -/
theorem up_ne (c : Dev nD) : up c 1 ≠ c := by
  intro h; have := congrArg Fin.val h; have := c.isLt; simp only [up_val, nD] at *; omega
/-- The device before `c` is not `c`. -/
theorem dn_ne (c : Dev nD) : dn c 1 ≠ c := by
  intro h; have := congrArg Fin.val h; have := c.isLt; simp only [dn_val, nD] at *; omega
/-- The two neighbours of `c` differ. -/
theorem dn_ne_up (c : Dev nD) : dn c 1 ≠ up c 1 := by
  intro h; have := congrArg Fin.val h; have := c.isLt; simp only [up_val, dn_val, nD] at *; omega

/-! ## Sets of devices by distance -/

/-- The devices one to `n` steps before `c`. -/
def behind (c : Dev nD) (n : ℕ) : Finset (Dev nD) :=
  Finset.univ.filter fun d => 1 ≤ (c.val + 32 - d.val) % 32 ∧ (c.val + 32 - d.val) % 32 ≤ n
/-- The devices one to `n` steps after `c`. -/
def ahead (c : Dev nD) (n : ℕ) : Finset (Dev nD) :=
  Finset.univ.filter fun d => 1 ≤ (d.val + 32 - c.val) % 32 ∧ (d.val + 32 - c.val) % 32 ≤ n
/-- The chunks more than `n` steps before `c`. -/
def beyond (c : Dev nD) (n : ℕ) : Finset (Dev nD) := Finset.univ.filter fun j => n < (c.val + 32 - j.val) % 32
/-- The chunks that `c` holds finished after `n` steps of the gathering: those at most `n` steps before `c + 1`. -/
def owned (c : Dev nD) (n : ℕ) : Finset (Dev nD) := Finset.univ.filter fun j => (c.val + 33 - j.val) % 32 ≤ n

theorem mem_behind (c d : Dev nD) (n : ℕ) :
    d ∈ behind c n ↔ 1 ≤ (c.val + 32 - d.val) % 32 ∧ (c.val + 32 - d.val) % 32 ≤ n := by
  simp only [behind, Finset.mem_filter, Finset.mem_univ, true_and]
theorem mem_ahead (c d : Dev nD) (n : ℕ) :
    d ∈ ahead c n ↔ 1 ≤ (d.val + 32 - c.val) % 32 ∧ (d.val + 32 - c.val) % 32 ≤ n := by
  simp only [ahead, Finset.mem_filter, Finset.mem_univ, true_and]

theorem behind_zero (c : Dev nD) : behind c 0 = ∅ := by
  ext d; simp only [behind, Finset.mem_filter, Finset.mem_univ, true_and, Finset.notMem_empty, iff_false]; omega
theorem ahead_zero (c : Dev nD) : ahead c 0 = ∅ := by
  ext d; simp only [ahead, Finset.mem_filter, Finset.mem_univ, true_and, Finset.notMem_empty, iff_false]; omega

theorem dist_up (c d n : ℕ) (hc : c < 32) (hd : d < 32) (hn : n ≤ 30) :
    (1 ≤ ((c + 1) % 32 + 32 - d) % 32 ∧ ((c + 1) % 32 + 32 - d) % 32 ≤ n + 1)
      ↔ (d = c ∨ (1 ≤ (c + 32 - d) % 32 ∧ (c + 32 - d) % 32 ≤ n)) := by
  have e : ((c + 1) % 32 + 32 - d) % 32 = ((c + 32 - d) % 32 + 1) % 32 := by omega
  have h0 : d = c ↔ (c + 32 - d) % 32 = 0 := by omega
  have hx : (c + 32 - d) % 32 < 32 := by omega
  rw [e, h0]
  generalize (c + 32 - d) % 32 = x at hx
  omega
theorem dist_dn (c d n : ℕ) (hc : c < 32) (hd : d < 32) (hn : n ≤ 30) :
    (1 ≤ (d + 32 - c) % 32 ∧ (d + 32 - c) % 32 ≤ n + 1)
      ↔ (d = (c + 1) % 32 ∨ (1 ≤ (d + 32 - (c + 1) % 32) % 32 ∧ (d + 32 - (c + 1) % 32) % 32 ≤ n)) := by
  have e : (d + 32 - c) % 32 = ((d + 32 - (c + 1) % 32) % 32 + 1) % 32 := by omega
  have h0 : d = (c + 1) % 32 ↔ (d + 32 - (c + 1) % 32) % 32 = 0 := by omega
  have hx : (d + 32 - (c + 1) % 32) % 32 < 32 := by omega
  rw [e, h0]
  generalize (d + 32 - (c + 1) % 32) % 32 = x at hx
  omega

theorem behind_up (c : Dev nD) (n : ℕ) (hn : n ≤ 30) : behind (up c 1) (n + 1) = insert c (behind c n) := by
  ext d
  simp only [mem_behind, Finset.mem_insert, up_val, Fin.ext_iff]
  exact dist_up c.val d.val n c.isLt d.isLt hn
theorem notMem_behind (c : Dev nD) (n : ℕ) : c ∉ behind c n := by
  have hc := c.isLt
  simp only [behind, Finset.mem_filter, Finset.mem_univ, true_and, nD] at *; omega

theorem ahead_up (c : Dev nD) (n : ℕ) (hn : n ≤ 30) : ahead c (n + 1) = insert (up c 1) (ahead (up c 1) n) := by
  ext d
  simp only [mem_ahead, Finset.mem_insert, up_val, Fin.ext_iff]
  exact dist_dn c.val d.val n c.isLt d.isLt hn
theorem notMem_ahead (c : Dev nD) (n : ℕ) : c ∉ ahead c n := by
  have hc := c.isLt
  simp only [ahead, Finset.mem_filter, Finset.mem_univ, true_and, nD] at *; omega

theorem behind_all (c : Dev nD) : behind c 31 = ahead c 31 := by
  ext d; have hc := c.isLt; have hd := d.isLt
  simp only [behind, ahead, Finset.mem_filter, Finset.mem_univ, true_and, nD] at *; omega

theorem beyond_zero (c : Dev nD) : insert c (beyond c 0) = Finset.univ := by
  ext d; have hc := c.isLt; have hd := d.isLt
  simp only [beyond, Finset.mem_filter, Finset.mem_univ, true_and, Finset.mem_insert, Fin.ext_iff, nD, iff_true] at *; omega
theorem notMem_beyond_zero (c : Dev nD) : c ∉ beyond c 0 := by
  have hc := c.isLt
  simp only [beyond, Finset.mem_filter, Finset.mem_univ, true_and, nD] at *; omega
theorem beyond_insert (c : Dev nD) (n : ℕ) (hn : n < 31) : beyond c n = insert (dn c (n + 1)) (beyond c (n + 1)) := by
  ext d; have hc := c.isLt; have hd := d.isLt
  simp only [beyond, Finset.mem_filter, Finset.mem_univ, true_and, Finset.mem_insert, dn_val, Fin.ext_iff, nD] at *; omega
theorem notMem_beyond (c : Dev nD) (n : ℕ) (hn : n < 31) : dn c (n + 1) ∉ beyond c (n + 1) := by
  have hc := c.isLt
  simp only [beyond, Finset.mem_filter, Finset.mem_univ, true_and, dn_val, nD] at *; omega
theorem beyond_last (c : Dev nD) : beyond c 31 = ∅ := by
  ext d; simp only [beyond, Finset.mem_filter, Finset.mem_univ, true_and, Finset.notMem_empty, iff_false]; omega

theorem owned_zero (c : Dev nD) : owned c 0 = {up c 1} := by
  ext d; have hc := c.isLt; have hd := d.isLt
  simp only [owned, Finset.mem_filter, Finset.mem_univ, true_and, Finset.mem_singleton, up_val, Fin.ext_iff, nD] at *; omega
theorem owned_insert (c : Dev nD) (n : ℕ) (hn : n < 31) : owned c (n + 1) = insert (dn c n) (owned c n) := by
  ext d; have hc := c.isLt; have hd := d.isLt
  simp only [owned, Finset.mem_filter, Finset.mem_univ, true_and, Finset.mem_insert, dn_val, Fin.ext_iff, nD] at *; omega
theorem notMem_owned (c : Dev nD) (n : ℕ) (hn : n < 31) : dn c n ∉ owned c n := by
  have hc := c.isLt
  simp only [owned, Finset.mem_filter, Finset.mem_univ, true_and, dn_val, nD] at *; omega
theorem mem_owned (c : Dev nD) (n : ℕ) (hn : n < 31) : dn c (n + 31) ∈ owned c n := by
  have hc := c.isLt
  simp only [owned, Finset.mem_filter, Finset.mem_univ, true_and, dn_val, nD] at *; omega
theorem owned_last (c : Dev nD) : owned c 31 = Finset.univ := by
  ext d; simp only [owned, Finset.mem_filter, Finset.mem_univ, true_and, iff_true]; omega

/-- The steps from `n` on. -/
def rem (n : ℕ) : Finset (Fin 31) := Finset.univ.filter fun i => n ≤ i.val
/-- The steps before `n`. -/
def past (n : ℕ) : Finset (Fin 31) := Finset.univ.filter fun i => i.val < n

theorem rem_zero : rem 0 = Finset.univ := by
  ext i; simp only [rem, Finset.mem_filter, Finset.mem_univ, true_and, iff_true]; omega
theorem rem_insert (i : Fin 31) : rem i.val = insert i (rem (i.val + 1)) := by
  ext j; simp only [rem, Finset.mem_filter, Finset.mem_univ, true_and, Finset.mem_insert, Fin.ext_iff]; omega
theorem notMem_rem (i : Fin 31) : i ∉ rem (i.val + 1) := by
  simp only [rem, Finset.mem_filter, Finset.mem_univ, true_and]; omega
theorem rem_last : rem 31 = ∅ := by
  ext i; have := i.isLt; simp only [rem, Finset.mem_filter, Finset.mem_univ, true_and, Finset.notMem_empty, iff_false]; omega
theorem past_zero : past 0 = ∅ := by
  ext i; simp only [past, Finset.mem_filter, Finset.mem_univ, true_and, Finset.notMem_empty, iff_false]; omega
theorem past_insert (i : Fin 31) : past (i.val + 1) = insert i (past i.val) := by
  ext j; simp only [past, Finset.mem_filter, Finset.mem_univ, true_and, Finset.mem_insert, Fin.ext_iff]; omega
theorem notMem_past (i : Fin 31) : i ∉ past i.val := by
  simp only [past, Finset.mem_filter, Finset.mem_univ, true_and]; omega
theorem past_last : past 31 = Finset.univ := by
  ext i; have := i.isLt; simp only [past, Finset.mem_filter, Finset.mem_univ, true_and, iff_true]; omega

/-! ## The printed devices -/

theorem dev1_eq (c : Dev nD) (h : k0_dev1 c < nD) : (⟨k0_dev1 c, h⟩ : Dev nD) = dn c 1 := Fin.ext (k0_dev1_eq c)
theorem dev2_eq (c : Dev nD) (h : k0_dev2 c < nD) : (⟨k0_dev2 c, h⟩ : Dev nD) = up c 1 := Fin.ext (k0_dev2_eq c)
theorem dev3_eq (c : Dev nD) (h : k0_dev3 c < nD) : (⟨k0_dev3 c, h⟩ : Dev nD) = up c 1 := Fin.ext (k0_dev3_eq c)
theorem dev4_eq (c : Dev nD) (h : k0_dev4 c < nD) : (⟨k0_dev4 c, h⟩ : Dev nD) = up c 1 := Fin.ext (k0_dev4_eq c)

/-! ## The chunks of the output and the slots of the landing buffer -/

theorem chunk_inb (j : Dev nD) : ∀ a, (![32 * j.val, 0] : Fin 2 → Nat) a + S32x1024.size a ≤ S1024x1024.size a := by
  revert j; decide +kernel
theorem slot_inb (i : Fin 31) : ∀ a, (![i.val, 0, 0] : Fin 3 → Nat) a + S1x32x1024.size a ≤ S31x32x1024.size a := by
  revert i; decide +kernel

/-- The rectangle of chunk `j`: rows `32 j` to `32 j + 31` of the output. -/
def chunkR (j : Dev nD) : Rect S1024x1024 := Rect.unit (s := S1024x1024) ![32 * j.val, 0] S32x1024.size (chunk_inb j)
/-- The rectangle of slot `i` of the landing buffer. -/
def slotR (i : Fin 31) : Rect S31x32x1024 := Rect.unit (s := S31x32x1024) ![i.val, 0, 0] S1x32x1024.size (slot_inb i)

/-- Chunk `j` of the output buffer. -/
def chM (j : Dev nD) : Memref sig .tc .vmem S32x1024 .f32 := (Memref.whole cc0_stg5_0).slice (chunkR j) (fun _ => rfl)
/-- Slot `i` of the landing buffer, as a chunk. -/
def slM (i : Fin 31) : Memref sig .tc .vmem S32x1024 .f32 :=
  ((Memref.whole cc0_scratch0).slice (slotR i) (fun _ => rfl)).squeeze S32x1024 squeezes_S1x32x1024_S32x1024

theorem chM_set (j : Dev nD) : (chM j).view.set = (chunkR j).set := View.set_slice_whole cc0_stg5_0 (chunkR j)
theorem slM_set (i : Fin 31) : (slM i).view.set = (slotR i).set :=
  (View.set_reshape (v := (View.whole cc0_scratch0).slice (slotR i)) squeezes_S1x32x1024_S32x1024.numel_eq).trans
    (View.set_slice_whole cc0_scratch0 (slotR i))

theorem chunk_disjoint (j j' : Dev nD) (h : j ≠ j') : Disjoint (chunkR j).set (chunkR j').set :=
  lead_disjoint (s := S1024x1024) (off := fun j : Fin 32 => ![32 * j.val, 0]) (size := S32x1024.size) (R := 32) (a₀ := 0)
    chunk_inb (fun _ => rfl) rfl j j' h
theorem chunk_cover : Finset.univ.biUnion (fun j : Dev nD => (chunkR j).set) = Finset.univ :=
  lead_cover (s := S1024x1024) (off := fun j : Fin 32 => ![32 * j.val, 0]) (size := S32x1024.size) (R := 32) (a₀ := 0)
    chunk_inb (fun _ => rfl) (by decide) rfl (by decide) rfl
theorem slot_disjoint (j j' : Fin 31) (h : j ≠ j') : Disjoint (slotR j).set (slotR j').set :=
  lead_disjoint (s := S31x32x1024) (off := fun j : Fin 31 => ![j.val, 0, 0]) (size := S1x32x1024.size) (R := 1) (a₀ := 0)
    slot_inb (fun j => (Nat.one_mul _).symm) rfl j j' h
theorem slot_cover : Finset.univ.biUnion (fun j : Fin 31 => (slotR j).set) = Finset.univ :=
  lead_cover (s := S31x32x1024) (off := fun j : Fin 31 => ![j.val, 0, 0]) (size := S1x32x1024.size) (R := 1) (a₀ := 0)
    slot_inb (fun j => (Nat.one_mul _).symm) (by decide) rfl (by decide) rfl

/-- A slice of the output at an offset that is a chunk's is that chunk. -/
theorem chM_of (j : Dev nD) {off : Fin 2 → Nat} (inb) (h : off = ![32 * j.val, 0]) :
    (Memref.whole cc0_stg5_0).slice (Rect.unit (s := S1024x1024) off S32x1024.size inb) (fun _ => rfl) = chM j := by
  subst h; rfl
/-- A slice of the landing buffer at an offset that is a slot's is that slot. -/
theorem slM_of (i : Fin 31) {off : Fin 3 → Nat} (inb) (h : off = ![i.val, 0, 0]) :
    ((Memref.whole cc0_scratch0).slice (Rect.unit (s := S31x32x1024) off S1x32x1024.size inb) (fun _ => rfl)).squeeze S32x1024
      squeezes_S1x32x1024_S32x1024 = slM i := by
  subst h; rfl
theorem chunkR_of (j : Dev nD) {off : Fin 2 → Nat} (inb) (h : off = ![32 * j.val, 0]) :
    Rect.unit (s := S1024x1024) off S32x1024.size inb = chunkR j := by
  subst h; rfl
theorem slotR_of (i : Fin 31) {off : Fin 3 → Nat} (inb) (h : off = ![i.val, 0, 0]) :
    Rect.unit (s := S31x32x1024) off S1x32x1024.size inb = slotR i := by
  subst h; rfl

/-! ## The loops' trips, and the printed offsets at a trip -/

theorem trips1 : k0_t1_loop.trips = 31 := by decide +kernel
theorem trips2 : k0_t2_loop.trips = 31 := by decide +kernel

/-- A trip of the first loop as a step. -/
def st1 (t : Fin k0_t1_loop.trips) : Fin 31 := ⟨t.val, trips1 ▸ t.isLt⟩
/-- A trip of the second loop as a step. -/
def st2 (t : Fin k0_t2_loop.trips) : Fin 31 := ⟨t.val, trips2 ▸ t.isLt⟩

theorem off3_eq (c : Dev nD) (t : Fin k0_t1_loop.trips) : k0_off3 c t = ![32 * (dn c t.val).val, 0] := by
  rw [k0_off3_eq, dn_val]; have := c.isLt; have := (st1 t).isLt; simp only [nD, st1, st2] at *
  congr 1; omega
theorem off4_eq (c : Dev nD) (t : Fin k0_t1_loop.trips) : k0_off4 c t = ![32 * (dn c (t.val + 1)).val, 0] := by
  rw [k0_off4_eq, dn_val]; have := c.isLt; have := (st1 t).isLt; simp only [nD, st1, st2] at *
  congr 1; omega
theorem off7_eq (c : Dev nD) (t : Fin k0_t2_loop.trips) : k0_off7 c t = ![32 * (dn c (t.val + 31)).val, 0] := by
  rw [k0_off7_eq, dn_val]; have := c.isLt; have := (st2 t).isLt; simp only [nD, st1, st2] at *
  congr 1; omega
theorem off8_eq (c : Dev nD) (t : Fin k0_t2_loop.trips) : k0_off8 c t = ![32 * (dn c t.val).val, 0] := by
  rw [k0_off8_eq, dn_val]; have := c.isLt; have := (st2 t).isLt; simp only [nD, st1, st2] at *
  congr 1; omega

/-! ## The semaphores -/

/-- The semaphore of step `i` in array `k`: 0 the scatter's sends, 1 its receipts, 2 the gathering's sends, 3 its receipts. -/
def semA (k : Fin 4) (i : Fin 31) : DmaSem sig := ⟨6 + 31 * k.val + i.val, by have := k.isLt; have := i.isLt; show _ < 130; omega⟩

theorem semA_inj {k k' : Fin 4} {i i' : Fin 31} (h : semA k i = semA k' i') : k = k' ∧ i = i' := by
  have h := congrArg Fin.val h; have := i.isLt; have := i'.isLt
  simp only [semA] at h
  constructor <;> apply Fin.ext <;> omega

theorem sem_of (k : Fin 4) {b : ℕ} (hb : b + S31.numel ≤ 130) (hk : b = 6 + 31 * k.val) (i : Fin 31) {off : Fin 1 → Nat} (inb)
    (h : off = ![i.val]) :
    (((SemArray.consecutive b S31 hb : DmaSems sig S31).slice (Rect.unit (s := S31) off S1.size inb)).squeeze S_ squeezes_S1_S_).sem
      = semA k i := by
  subst h hk; revert k i; decide +kernel

end Cert.KernelIdeal.RingProof
-- ==== Proof.Schedule.lean ====
/- The protocol of the ring all-reduce: the values in flight, the pieces of memory the landings hand over, and the schedule of
   the semaphores.

   * Barrier of `c` (one round, two units). `c + 1` gives, with its unit, the 31 slots of its landing buffer and the
     knowledge that its receive semaphores are in their first round; `c − 1` gives a unit with nothing.
   * Scatter, step `s`: `c` copies chunk `c − s` of its output, holding `acc s c`, into slot `s` of `c + 1`. The receipt at
     `c + 1` hands over the slot at `acc s c`, and chunk `c − s` of the output of each of the `s + 1` devices up to `c`: these
     chunks are free from here on, and are gathered at the device that will later write them. The send semaphore gives
     nothing back.
   * Gathering, step `s`: `c` copies chunk `c + 1 − s`, finished, into the same chunk of `c + 1`. The receipt at `c + 1` hands
     over that chunk finished, and the same chunk of the devices further on. The send semaphore gives the source back. -/
module

public import proofs.«01_k».proof.Proof.Ring
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Pipeline.RegionTalk

@[expose] public section

noncomputable section

namespace Cert.KernelIdeal.RingProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The values in flight -/

/-- The contents of every device's output buffer after its own heads. -/
abbrev Parts (F : FTy → Type) : Type := Dev nD → Vec F S1024x1024 .f32

/-- Chunk `j` of device `c`'s own contribution. -/
def ch (P : Parts F) (c j : Dev nD) : Vec F S32x1024 .f32 := (chM j).view.read (Elt F) (P c)

/-- Chunk `c − n` on device `c` when `n` contributions from the devices before it have been added. -/
def acc (P : Parts F) : ℕ → Dev nD → Vec F S32x1024 .f32
  | 0, c => ch P c c
  | n + 1, c => addf (ch P c (dn c (n + 1))) (acc P n (dn c 1))

/-- The finished chunk `j`: every device's contribution added, ending on device `j − 1`. -/
def fin (P : Parts F) (j : Dev nD) : Vec F S32x1024 .f32 := acc P 31 (dn j 1)

/-! ## The resource algebra -/

/-- The pipeline's ghost state beside the protocol's. -/
abbrev UU : Type := Rounds.URounds (GSem nD τ sig) Unit × Rounds.URounds (GSem nD τ sig) Bool

local notation "𝕄" => MT nD τ sig Unit (Elt F) ℕ UU ℕ

abbrev EP : Emb (Rounds.URounds (GSem nD τ sig) Unit) (MT nD τ sig Unit (Elt F) ℕ UU ℕ) := embL
abbrev ER : Emb (Rounds.URounds (GSem nD τ sig) Bool) (MT nD τ sig Unit (Elt F) ℕ UU ℕ) := embR

/-! ## Pieces and slots -/

/-- Chunk `j` of device `d`'s output buffer, reading `v`. -/
def piece (d j : Dev nD) (v : Vec F S32x1024 .f32) : sProp 𝕄 := owns (d : Thread nD τ) (chM j) fullShare v
/-- Chunk `j` of device `d`'s output buffer, at any contents. -/
def pieceAny (d j : Dev nD) : sProp 𝕄 := iprop(∃ v : Vec F S32x1024 .f32, piece d j v)
/-- Slot `i` of device `d`'s landing buffer, reading `v`. -/
def slot (d : Dev nD) (i : Fin 31) (v : Vec F S32x1024 .f32) : sProp 𝕄 := owns (d : Thread nD τ) (slM i) fullShare v
/-- Slot `i` of device `d`'s landing buffer, at any contents. -/
def slotAny (d : Dev nD) (i : Fin 31) : sProp 𝕄 := iprop(∃ v : Vec F S32x1024 .f32, slot d i v)

instance piece_storable (d j : Dev nD) (v : Vec F S32x1024 .f32) : BI.Storable (upEmb : UEmb _ 𝕄) (piece d j v) := by
  unfold piece; infer_instance
instance pieceAny_storable (d j : Dev nD) : BI.Storable (upEmb : UEmb _ 𝕄) (pieceAny (F := F) d j) := by
  unfold pieceAny; infer_instance
instance slot_storable (d : Dev nD) (i : Fin 31) (v : Vec F S32x1024 .f32) : BI.Storable (upEmb : UEmb _ 𝕄) (slot d i v) := by
  unfold slot; infer_instance
instance slotAny_storable (d : Dev nD) (i : Fin 31) : BI.Storable (upEmb : UEmb _ 𝕄) (slotAny (F := F) d i) := by
  unfold slotAny; infer_instance

/-! ## Cells -/

abbrev barCell (c : Dev nD) : GSem nD τ sig := ((c : Thread nD τ), .reg barrier0)
/-- Device `c`'s semaphore of array `k` and step `i`. -/
abbrev cellA (k : Fin 4) (c : Dev nD) (i : Fin 31) : GSem nD τ sig := ((c : Thread nD τ), .dma (semA k i))
abbrev rsS (c : Dev nD) (i : Fin 31) : GSem nD τ sig := cellA 0 c i
abbrev rsR (c : Dev nD) (i : Fin 31) : GSem nD τ sig := cellA 1 c i
abbrev agS (c : Dev nD) (i : Fin 31) : GSem nD τ sig := cellA 2 c i
abbrev agR (c : Dev nD) (i : Fin 31) : GSem nD τ sig := cellA 3 c i

/-- The credit of one chunk. -/
abbrev N : ℕ := (chM 0).view.dmaCredit
theorem N_pos : 0 < N := View.dmaCredit_pos _ (by decide)
theorem credit_chunk (j : Dev nD) : (chM j).view.dmaCredit = N := rfl
theorem credit_slot (i : Fin 31) : (slM i).view.dmaCredit = N := rfl

/-! ## What each duty pays -/

/-- To the barrier of `c`, from `c + 1`. -/
def barPay (c : Dev nD) : sProp 𝕄 :=
  iprop((bigSep Finset.univ fun i : Fin 31 => slotAny (F := F) (up c 1) i)
    ∗ (bigSep Finset.univ fun i : Fin 31 => reached ER (rsR (up c 1) i) 0)
    ∗ (bigSep Finset.univ fun i : Fin 31 => reached ER (agR (up c 1) i) 0))
/-- To the receipt of step `i` of the scatter on `c`. -/
def rsPay (P : Parts F) (c : Dev nD) (i : Fin 31) : sProp 𝕄 :=
  iprop(slot c i (acc P i.val (dn c 1)) ∗ bigSep (behind c (i.val + 1)) fun d => pieceAny (F := F) d (dn c (i.val + 1)))
/-- To the send of step `i` of the gathering on `c`. -/
def agSPay (P : Parts F) (c : Dev nD) (i : Fin 31) : sProp 𝕄 := piece c (dn c (i.val + 31)) (fin P (dn c (i.val + 31)))
/-- To the receipt of step `i` of the gathering on `c`. -/
def agPay (P : Parts F) (c : Dev nD) (i : Fin 31) : sProp 𝕄 :=
  iprop(piece c (dn c i.val) (fin P (dn c i.val)) ∗ bigSep (ahead c (30 - i.val)) fun d => pieceAny (F := F) d (dn c i.val))

/-- The array and the step of a semaphore's number. -/
def arr (s : DmaSem sig) : ℕ := (s.val - 6) / 31
def step (s : DmaSem sig) : Fin 31 := ⟨(s.val - 6) % 31, Nat.mod_lt _ (by decide)⟩

theorem arr_semA (k : Fin 4) (i : Fin 31) : arr (semA k i) = k.val := by
  have := i.isLt; have := k.isLt; simp only [arr, semA]; omega
theorem step_semA (k : Fin 4) (i : Fin 31) : step (semA k i) = i := by
  have := i.isLt; have := k.isLt; apply Fin.ext; simp only [step, semA]; omega
theorem semA_ge (k : Fin 4) (i : Fin 31) : 6 ≤ (semA k i).val := by simp only [semA]; omega

/-- What the landing on a semaphore of array `k`, step `i`, of device `c` pays. -/
def dmaPay (P : Parts F) (c : Dev nD) (k : ℕ) (i : Fin 31) : sProp 𝕄 :=
  if k = 1 then rsPay P c i else if k = 2 then agSPay P c i else if k = 3 then agPay P c i else iprop(emp)

/-- The payload of a duty of a cell. -/
def pay (P : Parts F) (c : Dev nD) : SemLoc sig → Bool → sProp 𝕄
  | .reg _, d => if d then iprop(emp) else barPay c
  | .dma s, _ => dmaPay P c (arr s) (step s)

/-- The duties of a cell's one round. -/
def dues : SemLoc sig → Finset Bool
  | .reg _ => Finset.univ
  | .dma s => if 6 ≤ s.val then {false} else ∅

/-- What a duty raises its cell by. -/
def amt : SemLoc sig → ℕ
  | .reg _ => 1
  | .dma _ => N

/-- One round on every cell of the kernel. -/
def Rd (P : Parts F) : Rounds.Schedule (GSem nD τ sig) Bool 𝕄 where
  duties g r := if r = 0 ∧ g.1.2 = .tc then dues g.2 else ∅
  unitless _ := False
  amount g _ _ := amt g.2
  payload g _ d := pay P g.1.1 g.2 d
  amount_pos g _ _ _ := by
    rcases g with ⟨t, sm | sm⟩
    · exact Nat.one_pos
    · exact N_pos

instance Rd_storable (P : Parts F) (g : GSem nD τ sig) (r : ℕ) (d : Bool) :
    BI.Storable (upEmb : UEmb _ 𝕄) ((Rd P).payload g r d) := by
  rcases g with ⟨t, sm | sm⟩
  · show BI.Storable upEmb (if d then iprop(emp) else barPay t.1)
    unfold barPay
    split <;> infer_instance
  · show BI.Storable upEmb (dmaPay P t.1 (arr sm) (step sm))
    unfold dmaPay rsPay agSPay agPay
    (repeat' split) <;> infer_instance

section Sched

variable (P : Parts F) (c : Dev nD)

theorem duties_bar : (Rd P).duties (barCell c) 0 = Finset.univ := by
  show (if (0 : ℕ) = 0 ∧ (c : Thread nD τ).2 = .tc then dues (.reg barrier0) else ∅) = _
  exact if_pos ⟨rfl, rfl⟩
theorem duties_A (k : Fin 4) (i : Fin 31) : (Rd P).duties (cellA k c i) 0 = {false} := by
  show (if (0 : ℕ) = 0 ∧ (c : Thread nD τ).2 = .tc then (if 6 ≤ (semA k i).val then ({false} : Finset Bool) else ∅) else ∅) = _
  rw [if_pos ⟨rfl, rfl⟩, if_pos (semA_ge k i)]
theorem duties_later (g : GSem nD τ sig) : ∀ r, 1 ≤ r → (Rd P).duties g r = ∅ :=
  fun r hr => if_neg fun h => by omega
theorem amount_bar (d : Bool) : (Rd P).amount (barCell c) 0 d = 1 := rfl
theorem amount_A (k : Fin 4) (i : Fin 31) (d : Bool) : (Rd P).amount (cellA k c i) 0 d = N := rfl

theorem expect_bar : (Rd P).expect (barCell c) 0 = 2 := by
  unfold Schedule.expect Schedule.amountOf; rw [duties_bar]; rfl
theorem expect_A (k : Fin 4) (i : Fin 31) : (Rd P).expect (cellA k c i) 0 = N := by
  unfold Schedule.expect Schedule.amountOf; rw [duties_A, Finset.sum_singleton, amount_A]

theorem pay_A (k : Fin 4) (i : Fin 31) (d : Bool) : (Rd P).payload (cellA k c i) 0 d = dmaPay P c k.val i := by
  show dmaPay P c (arr (semA k i)) (step (semA k i)) = _
  rw [arr_semA, step_semA]
theorem pay_bar_right : (Rd P).payload (barCell c) 0 false = barPay c := rfl
theorem pay_bar_left : (Rd P).payload (barCell c) 0 true = iprop(emp) := rfl
theorem pay_rsS (i : Fin 31) (d : Bool) : (Rd P).payload (rsS c i) 0 d = iprop(emp) := (pay_A P c 0 i d).trans rfl
theorem pay_rsR (i : Fin 31) (d : Bool) : (Rd P).payload (rsR c i) 0 d = rsPay P c i := (pay_A P c 1 i d).trans rfl
theorem pay_agS (i : Fin 31) (d : Bool) : (Rd P).payload (agS c i) 0 d = agSPay P c i := (pay_A P c 2 i d).trans rfl
theorem pay_agR (i : Fin 31) (d : Bool) : (Rd P).payload (agR c i) 0 d = agPay P c i := (pay_A P c 3 i d).trans rfl

theorem rest_bar : bigSep ((Rd P).duties (barCell c) 0 \ ∅) (fun d => (Rd P).payload (barCell c) 0 d) = iprop(barPay c ∗ emp) := by
  rw [Finset.sdiff_empty, duties_bar, show (Finset.univ : Finset Bool) = {false, true} from by decide,
    bigSep_insert (by decide), bigSep_singleton, pay_bar_right, pay_bar_left]
  rfl
theorem rest_A (k : Fin 4) (i : Fin 31) :
    bigSep ((Rd P).duties (cellA k c i) 0 \ ∅) (fun d => (Rd P).payload (cellA k c i) 0 d) = dmaPay P c k.val i := by
  rw [Finset.sdiff_empty, duties_A, bigSep_singleton, pay_A]

theorem close (κ : ℕ) (g : GSem nD τ sig) :
    iprop(cellInv ER (Rd P) κ g ∗ atPos ER g (0 + 1) ∅ 0) ⊢ (|={Set.univ}=> semVal g 0 : sProp 𝕄) :=
  Rounds.cell_close ER (Rd P) (Set.mem_univ κ) id (duties_later P g)

end Sched

/-! ## What a device owes, and the levels -/

/-- The scatter's receipts at the next device from step `n` on. -/
def oweRS (c : Dev nD) (n : ℕ) : CellTallies nD τ sig Unit := ∑ i ∈ rem n, tallyAt (rsR (up c 1) i) () N
/-- The gathering's receipts at the next device from step `n` on. -/
def oweAG (c : Dev nD) (n : ℕ) : CellTallies nD τ sig Unit := ∑ i ∈ rem n, tallyAt (agR (up c 1) i) () N
/-- All a device owes at the start: its two barrier units, and the receipts. -/
def O₀ (c : Dev nD) : CellTallies nD τ sig Unit :=
  (oweRS c 0 + oweAG c 0) + tallyAt (barCell (up c 1)) () 1 + tallyAt (barCell (dn c 1)) () 1

theorem oweRS_step (c : Dev nD) (i : Fin 31) : oweRS c i.val = oweRS c (i.val + 1) + tallyAt (rsR (up c 1) i) () N := by
  unfold oweRS; rw [rem_insert, Finset.sum_insert (notMem_rem i), add_comm]
theorem oweAG_step (c : Dev nD) (i : Fin 31) : oweAG c i.val = oweAG c (i.val + 1) + tallyAt (agR (up c 1) i) () N := by
  unfold oweAG; rw [rem_insert, Finset.sum_insert (notMem_rem i), add_comm]
theorem oweRS_last (c : Dev nD) : oweRS c 31 = 0 := by unfold oweRS; rw [rem_last, Finset.sum_empty]
theorem oweAG_last (c : Dev nD) : oweAG c 31 = 0 := by unfold oweAG; rw [rem_last, Finset.sum_empty]

def L (g : GSem nD τ sig) : Finset Unit := if g.1.2 = .tc then {()} else ∅
/-- The barrier at 1, the scatter's receipt of step `i` at `2 + i`, the gathering's at `33 + i`, the rest at 0. -/
def lvS : SemLoc sig → ℕ
  | .reg _ => 1
  | .dma s => if arr s = 1 then 2 + (step s).val else if arr s = 3 then 33 + (step s).val else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_A (k : Fin 4) (c : Dev nD) (i : Fin 31) :
    lv (cellA k c i) () = if k.val = 1 then 2 + i.val else if k.val = 3 then 33 + i.val else 0 := by
  show lvS (.dma (semA k i)) = _
  show (if arr (semA k i) = 1 then 2 + (step (semA k i)).val else if arr (semA k i) = 3 then 33 + (step (semA k i)).val else 0) = _
  rw [arr_semA, step_semA]
theorem lv_bar (c : Dev nD) : lv (barCell c) () = 1 := rfl

theorem tallyAt_pos_cell {g g' : GSem nD τ sig} {u : Unit} {n : ℕ} (h : 0 < (tallyAt g () n : CellTallies nD τ sig Unit) g' u) : g' = g := by
  rw [tallyAt_apply] at h
  split at h
  · next hg => exact hg.1
  · exact absurd h (Nat.lt_irrefl 0)

theorem sum_pos_cell {s : Finset (Fin 31)} {f : Fin 31 → GSem nD τ sig} {g : GSem nD τ sig} {u : Unit} {n : ℕ}
    (h : 0 < (∑ i ∈ s, (tallyAt (f i) () n : CellTallies nD τ sig Unit)) g u) : ∃ i ∈ s, g = f i := by
  rw [Finset.sum_apply, Finsupp.finset_sum_apply] at h
  by_contra hn
  push Not at hn
  have : ∑ i ∈ s, (tallyAt (f i) () n : CellTallies nD τ sig Unit) g u = 0 := Finset.sum_eq_zero fun i hi => by
    rcases Nat.eq_zero_or_pos ((tallyAt (f i) () n : CellTallies nD τ sig Unit) g u) with h0 | h0
    · exact h0
    · exact absurd (tallyAt_pos_cell h0) (hn i hi)
  omega

/-- What is owed from step `n` of the scatter and step `m` of the gathering on is owed at those steps' receipts. -/
theorem owe_pos {c : Dev nD} {n m : ℕ} {g : GSem nD τ sig} {u : Unit} (h : 0 < (oweRS c n + oweAG c m) g u) :
    (∃ i : Fin 31, n ≤ i.val ∧ g = rsR (up c 1) i) ∨ (∃ i : Fin 31, m ≤ i.val ∧ g = agR (up c 1) i) := by
  rw [Pi.add_apply, Finsupp.add_apply] at h
  rcases Nat.add_pos_iff_pos_or_pos.mp h with h | h
  · obtain ⟨i, hi, rfl⟩ := sum_pos_cell h
    exact .inl ⟨i, (Finset.mem_filter.mp hi).2, rfl⟩
  · obtain ⟨i, hi, rfl⟩ := sum_pos_cell h
    exact .inr ⟨i, (Finset.mem_filter.mp hi).2, rfl⟩

/-- A device may wait at a cell of level at most `b` while all it owes lies above `b`. -/
theorem mayWait (c : Dev nD) (sm : SemLoc sig) (b : ℕ) (hb : lvS sm ≤ b) (O : CellTallies nD τ sig Unit)
    (hO : ∀ g u, 0 < O g u → g.1.2 = .tc ∧ b < lvS g.2) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

theorem lvS_A (k : Fin 4) (i : Fin 31) :
    lvS (.dma (semA k i)) = if k.val = 1 then 2 + i.val else if k.val = 3 then 33 + i.val else 0 := by
  show (if arr (semA k i) = 1 then 2 + (step (semA k i)).val else if arr (semA k i) = 3 then 33 + (step (semA k i)).val else 0) = _
  rw [arr_semA, step_semA]

theorem mayWait_owe (c : Dev nD) (sm : SemLoc sig) (b n m : ℕ) (hb : lvS sm ≤ b) (hn : b < 2 + n ∨ 31 ≤ n) (hm : b < 33 + m) :
    (levAts L lv : sProp 𝕄) ⊢ MayWait (c : Thread nD τ) sm () (oweRS c n + oweAG c m) :=
  mayWait c sm b hb _ fun g u hg => by
    rcases owe_pos hg with ⟨i, hi, rfl⟩ | ⟨i, hi, rfl⟩
    · refine ⟨rfl, ?_⟩
      show b < lvS (.dma (semA 1 i)); rw [lvS_A]; show b < 2 + i.val; have := i.isLt; omega
    · refine ⟨rfl, ?_⟩
      show b < lvS (.dma (semA 3 i)); rw [lvS_A]; show b < 33 + i.val; omega

end Cert.KernelIdeal.RingProof
-- ==== Proof.Pieces.lean ====
/- The output buffer as its 32 chunks and the landing buffer as its 31 slots: taking them apart, putting them together, and
   loading, storing and landing on one of them. -/
module

public import proofs.«01_k».proof.Proof.Schedule
public import Idealize.ShloMosaic.Lib.ValueIdxCore

@[expose] public section

noncomputable section

namespace Cert.KernelIdeal.RingProof

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-! ## The whole result -/

/-- The chunk a row of the output lies in, and the row within it. -/
def chunkOf (i : S1024x1024.Idx) : Dev nD := ⟨(i 0).val / 32, Nat.div_lt_of_lt_mul (i 0).isLt⟩
def within (i : S1024x1024.Idx) : S32x1024.Idx := ix2 ⟨(i 0).val % 32, Nat.mod_lt _ (by decide)⟩ (i 1)

/-- Every device's output at the end: the finished chunks side by side. -/
def total (P : Parts F) : Vec F S1024x1024 .f32 := fun i => fin P (chunkOf i) (within i)

theorem emb_row (j : Dev nD) (y : S32x1024.Idx) : (((chunkR j).emb y) 0).val = 32 * j.val + (y 0).val := by
  show 32 * j.val + 1 * (y 0).val = _; omega
theorem emb_col (j : Dev nD) (y : S32x1024.Idx) : (((chunkR j).emb y) 1).val = (y 1).val := by
  show 0 + 1 * (y 1).val = _; omega

theorem total_emb (P : Parts F) (j : Dev nD) (y : S32x1024.Idx) : total P ((chunkR j).emb y) = fin P j y := by
  have h0 : (y 0).val < 32 := (y 0).isLt
  have e1 : chunkOf ((chunkR j).emb y) = j := Fin.ext (by
    show (((chunkR j).emb y) 0).val / 32 = j.val; rw [emb_row]; omega)
  have e2 : within ((chunkR j).emb y) = y := by
    unfold within
    refine (congrArg₂ ix2 (Fin.ext ?_) (Fin.ext ?_)).trans (eq_ix2 y).symm
    · show (((chunkR j).emb y) 0).val % 32 = (y 0).val; rw [emb_row]; omega
    · exact emb_col j y
  unfold total; rw [e1, e2]

/-! ## Apart and together -/

theorem ch_apply (P : Parts F) (c j : Dev nD) : ch P c j = fun y => P c ((chunkR j).emb y) := rfl

/-- The output buffer, taken apart into its chunks. -/
theorem out_split (P : Parts F) (c : Dev nD) :
    ((c : Thread nD τ).loc cc0_stg5_0 ↦{fullShare} P c : sProp 𝕄) ⊢ bigSep Finset.univ fun j => piece c j (ch P c j) := by
  rw [← owns_whole]
  exact owns_rects (c : Thread nD τ) (Memref.whole cc0_stg5_0) fullShare chunkR (fun _ _ => rfl) chunk_disjoint chunk_cover (P c)

/-- The finished chunks, put together. -/
theorem out_join (P : Parts F) (c : Dev nD) :
    (bigSep Finset.univ fun j => piece c j (fin P j)) ⊢ ((c : Thread nD τ).loc cc0_stg5_0 ↦{fullShare} total P : sProp 𝕄) := by
  rw [← owns_whole]
  refine BIBase.Entails.trans (bigSep_mono fun j _ => ?_)
    (owns_of_rects (c : Thread nD τ) (Memref.whole cc0_stg5_0) fullShare chunkR (fun _ _ => rfl) chunk_disjoint chunk_cover (total P))
  exact Entails.of_eq (congrArg (fun v => (owns (c : Thread nD τ) (chM j) fullShare v : sProp 𝕄)) (funext (total_emb P j)).symm)

theorem slot_intro (c : Dev nD) (i : Fin 31) (f : Buf (Elt F) ((slM i).view.loc (c : Thread nD τ))) :
    ((slM i).view.loc (c : Thread nD τ) ↦[(slM i).view.set]{fullShare} f : sProp 𝕄) ⊢ slot c i ((slM i).view.read (Elt F) f) := by
  unfold slot; exact owns_intro _ _ _ _
theorem piece_intro (c j : Dev nD) (f : Buf (Elt F) ((chM j).view.loc (c : Thread nD τ))) :
    ((chM j).view.loc (c : Thread nD τ) ↦[(chM j).view.set]{fullShare} f : sProp 𝕄) ⊢ piece c j ((chM j).view.read (Elt F) f) := by
  unfold piece; exact owns_intro _ _ _ _

/-- The landing buffer, taken apart into its slots. -/
theorem slots_split (c : Dev nD) :
    iprop(∃ f : Buf (Elt F) ((c : Thread nD τ).loc cc0_scratch0), (c : Thread nD τ).loc cc0_scratch0 ↦{fullShare} f)
      ⊢ (bigSep Finset.univ fun i => slotAny (F := F) c i : sProp 𝕄) := by
  refine exists_elim fun f => ?_
  rw [Ring.pointsTo_blocks (ℓ := (c : Thread nD τ).loc cc0_scratch0) (fun i : Fin 31 => (slotR i).set) slot_disjoint slot_cover]
  refine bigSep_mono fun i _ => ?_
  refine BIBase.Entails.trans ?_ (exists_intro (Φ := fun v => slot c i v) ((slM i).view.read (Elt F) f))
  exact (Entails.of_eq (by rw [slM_set]; rfl)).trans (slot_intro c i f)

theorem slotAny_open (c : Dev nD) (i : Fin 31) :
    (slotAny (F := F) c i : sProp 𝕄) ⊢ iprop(∃ f : Buf (Elt F) ((c : Thread nD τ).loc cc0_scratch0),
      (c : Thread nD τ).loc cc0_scratch0 ↦[(slotR i).set]{fullShare} f) := by
  unfold slotAny slot owns
  iintro ⟨%v, %f, -, H⟩
  iexists f
  rw [← slM_set]; iexact H

/-- The slots, put together. -/
theorem slots_join (c : Dev nD) :
    (bigSep Finset.univ fun i => slotAny (F := F) c i : sProp 𝕄)
      ⊢ iprop(∃ f : Buf (Elt F) ((c : Thread nD τ).loc cc0_scratch0), (c : Thread nD τ).loc cc0_scratch0 ↦{fullShare} f) := by
  refine BIBase.Entails.trans (bigSep_mono fun i _ => ?_)
    (Ring.pointsTo_blocks_join_exists (ℓ := (c : Thread nD τ).loc cc0_scratch0) (Val := Elt F) (fun i : Fin 31 => (slotR i).set) slot_disjoint
      slot_cover (fun _ => Classical.arbitrary _))
  exact slotAny_open c i

/-! ## One chunk or slot: opening and closing -/

theorem piece_open (c j : Dev nD) (v : Vec F S32x1024 .f32) :
    (piece c j v : sProp 𝕄) ⊢ iprop(∃ f : Buf (Elt F) ((chM j).view.loc (c : Thread nD τ)), ⌜(chM j).view.read (Elt F) f = v⌝
      ∗ (chM j).view.loc (c : Thread nD τ) ↦[(chM j).view.set]{fullShare} f) := .rfl
theorem slot_open (c : Dev nD) (i : Fin 31) (v : Vec F S32x1024 .f32) :
    (slot c i v : sProp 𝕄) ⊢ iprop(∃ f : Buf (Elt F) ((slM i).view.loc (c : Thread nD τ)), ⌜(slM i).view.read (Elt F) f = v⌝
      ∗ (slM i).view.loc (c : Thread nD τ) ↦[(slM i).view.set]{fullShare} f) := .rfl

/-- What a landing over a slot leaves. -/
theorem slot_landed (c : Dev nD) (i : Fin 31) (g : Buf (Elt F) ((slM i).view.loc (c : Thread nD τ))) (v : Vec F S32x1024 .f32) :
    ((slM i).view.loc (c : Thread nD τ) ↦[(slM i).view.set]{fullShare} (slM i).view.write (Elt F) g v Finset.univ : sProp 𝕄)
      ⊢ slot c i v := by
  refine (slot_intro c i _).trans ?_
  rw [View.read_write_univ]
/-- What a landing over a chunk leaves. -/
theorem piece_landed (c j : Dev nD) (g : Buf (Elt F) ((chM j).view.loc (c : Thread nD τ))) (v : Vec F S32x1024 .f32) :
    ((chM j).view.loc (c : Thread nD τ) ↦[(chM j).view.set]{fullShare} (chM j).view.write (Elt F) g v Finset.univ : sProp 𝕄)
      ⊢ piece c j v := by
  refine (piece_intro c j _).trans ?_
  rw [View.read_write_univ]

/-! ## Loads and stores at a chunk's or a slot's printed offset -/

section Access

variable (𝒱 : Variants) (c : Dev nD) {α : Type}

theorem wp_load_piece (j : Dev nD) (v : Vec F S32x1024 .f32) {off : Fin 2 → Nat} (inb) (h : off = ![32 * j.val, 0])
    {hl : (Memref.whole cc0_stg5_0).view.LoadsAt (Rect.unit (s := S1024x1024) off S32x1024.size inb).toLoadRect}
    {k : Vec F S32x1024 .f32 → Prog (TpuEff nD τ sig (Elt F) Λ₀ .tc) α} {Q : α → sProp (MT nD τ sig Unit (Elt F) ℕ UU ℕ)} :
    (piece c j v : sProp 𝕄)
      ⊢ iprop((piece c j v -∗ wp frame (wpE defs₀ 𝒱 (c : Thread nD τ) none) Set.univ (k v) Q)
        -∗ wp frame (wpE defs₀ 𝒱 (c : Thread nD τ) none) Set.univ
          (.op (.load (Memref.whole cc0_stg5_0) (Rect.unit (s := S1024x1024) off S32x1024.size inb).toLoadRect hl) k) Q) := by
  subst h
  iintro H Hk
  ihave H' := (piece_open c j v) $$ H
  icases H' with ⟨%f, %hf, H⟩
  subst hf
  iapply (wp_load_rect 𝒱 (c : Thread nD τ) none Set.univ (m := Memref.whole cc0_stg5_0) (r := chunkR j) (S := (chM j).view.set)
    (q := fullShare) (f := f) subset_rfl) $$ [H]
  · iexact H
  iintro H
  iapply Hk
  iapply (piece_intro c j f); iexact H

theorem wp_store_piece (j : Dev nD) (v w : Vec F S32x1024 .f32) {off : Fin 2 → Nat} (inb) (h : off = ![32 * j.val, 0])
    {hx : ((Memref.whole cc0_stg5_0).access (Rect.unit (s := S1024x1024) off S32x1024.size inb)).Stores Finset.univ} {hm}
    {k : PUnit → Prog (TpuEff nD τ sig (Elt F) Λ₀ .tc) α} {Q : α → sProp (MT nD τ sig Unit (Elt F) ℕ UU ℕ)} :
    (piece c j v : sProp 𝕄)
      ⊢ iprop((piece c j w -∗ wp frame (wpE defs₀ 𝒱 (c : Thread nD τ) none) Set.univ (k ⟨⟩) Q)
        -∗ wp frame (wpE defs₀ 𝒱 (c : Thread nD τ) none) Set.univ
          (.op (.store (Memref.whole cc0_stg5_0) (Rect.unit (s := S1024x1024) off S32x1024.size inb) w Finset.univ hx hm) k) Q) := by
  subst h
  iintro H Hk
  ihave H' := (piece_open c j v) $$ H
  icases H' with ⟨%f, -, H⟩
  iapply (wp_store 𝒱 (c : Thread nD τ) none Set.univ (m := Memref.whole cc0_stg5_0) (r := chunkR j) (S := (chM j).view.set)
    (f := f) subset_rfl) $$ [H]
  · iexact H
  iintro H
  iapply Hk
  iapply (piece_landed c j f w); iexact H

theorem wp_load_slot (i : Fin 31) (v : Vec F S32x1024 .f32) {off : Fin 3 → Nat} (inb) (h : off = ![i.val, 0, 0])
    {hl : (Memref.whole cc0_scratch0).view.LoadsAt (Rect.unit (s := S31x32x1024) off S1x32x1024.size inb).toLoadRect}
    {k : Vec F S1x32x1024 .f32 → Prog (TpuEff nD τ sig (Elt F) Λ₀ .tc) α} {Q : α → sProp (MT nD τ sig Unit (Elt F) ℕ UU ℕ)} :
    (slot c i v : sProp 𝕄)
      ⊢ iprop((∀ u : Vec F S1x32x1024 .f32, ⌜shapeCast S32x1024 u shapeCasts_S1x32x1024_S32x1024 = v⌝ -∗ slot c i v
          -∗ wp frame (wpE defs₀ 𝒱 (c : Thread nD τ) none) Set.univ (k u) Q)
        -∗ wp frame (wpE defs₀ 𝒱 (c : Thread nD τ) none) Set.univ
          (.op (.load (Memref.whole cc0_scratch0) (Rect.unit (s := S31x32x1024) off S1x32x1024.size inb).toLoadRect hl) k) Q) := by
  subst h
  iintro H Hk
  ihave H' := (slot_open c i v) $$ H
  icases H' with ⟨%f, %hf, H⟩
  subst hf
  iapply (wp_load_rect 𝒱 (c : Thread nD τ) none Set.univ (m := Memref.whole cc0_scratch0) (r := slotR i) (S := (slM i).view.set)
    (q := fullShare) (f := f) (by rw [slM_set]; exact (View.set_slice_whole cc0_scratch0 (slotR i)).le)) $$ [H]
  · iexact H
  iintro H
  iapply Hk $$ [] [H]
  · ipureintro; rfl
  · iapply (slot_intro c i f); iexact H

end Access

end Cert.KernelIdeal.RingProof
-- ==== Proof.Transfers.lean ====
/- The kernel's transfers and waits against the schedule: what a device may consult at any time, the two sends, and the waits
   on its semaphores, each with its semaphore's counter handed back. -/
module

public import proofs.«01_k».proof.Proof.Pieces

@[expose] public section

noncomputable section

namespace Cert.KernelIdeal.RingProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- A family over a set with a member set apart. -/
theorem bigSep_take {I : Type} [DecidableEq I] {s t : Finset I} {a : I} (h : s = insert a t) (ha : a ∉ t) (Φ : I → sProp 𝕄) :
    bigSep s Φ = iprop(Φ a ∗ bigSep t Φ) := by
  rw [h, bigSep_insert ha]; rfl

/-! ## What a device may consult -/

/-- The invariants of all transfer semaphores of all devices, under one map of names. -/
def cellsA (P : Parts F) (κ : GSem nD τ sig → ℕ) : sProp 𝕄 :=
  bigSep Finset.univ fun x : Fin 4 × Dev nD × Fin 31 => cellInv ER (Rd P) (κ (cellA x.1 x.2.1 x.2.2)) (cellA x.1 x.2.1 x.2.2)
/-- The first round of every semaphore of a device's array `k` is open. -/
def openA (k : Fin 4) (c : Dev nD) : sProp 𝕄 := bigSep Finset.univ fun i : Fin 31 => reached ER (cellA k c i) 0

/-- What device `c` may consult in its loops. -/
def knows (P : Parts F) (κ : GSem nD τ sig → ℕ) (c : Dev nD) : sProp 𝕄 :=
  iprop(cellsA P κ ∗ levAts L lv ∗ openA (F := F) 0 c ∗ openA (F := F) 2 c ∗ openA (F := F) 1 (up c 1) ∗ openA (F := F) 3 (up c 1))

instance cellsA_persistent (P : Parts F) (κ) : BI.Persistent (cellsA P κ) := by unfold cellsA; infer_instance
instance openA_persistent (k : Fin 4) (c : Dev nD) : BI.Persistent (openA (F := F) k c) := by unfold openA; infer_instance
instance knows_persistent (P : Parts F) (κ) (c : Dev nD) : BI.Persistent (knows P κ c) := by unfold knows; infer_instance

theorem cellsA_at (P : Parts F) (κ : GSem nD τ sig → ℕ) (k : Fin 4) (c : Dev nD) (i : Fin 31) :
    cellsA P κ ⊢ (cellInv ER (Rd P) (κ (cellA k c i)) (cellA k c i) : sProp 𝕄) :=
  bigSep_elim (i := ((k, c, i) : Fin 4 × Dev nD × Fin 31)) (Finset.mem_univ _)
theorem openA_at (k : Fin 4) (c : Dev nD) (i : Fin 31) : openA (F := F) k c ⊢ (reached ER (cellA k c i) 0 : sProp 𝕄) :=
  bigSep_elim (Finset.mem_univ i)

/-! ## Waits -/

section Rules

variable (𝒱 : Variants) (P : Parts F) (κ : GSem nD τ sig → ℕ) (c : Dev nD) {α : Type}

/-- The wait on a device's transfer semaphore, while it owes the receipts from step `n` and step `m` on: what the landing paid,
    and the counter back at zero. -/
theorem wp_wait_A (k : Fin 4) (i : Fin 31) (n m : ℕ) (b : ℕ) (hb : lvS (.dma (semA k i)) ≤ b) (hn : b < 2 + n ∨ 31 ≤ n) (hm : b < 33 + m)
    {s : DmaSem sig} (hs : s = semA k i) {src dst dst' : Memref sig .tc .vmem S32x1024 .f32} (hd : dst = dst') (hN : dst'.view.dmaCredit = N)
    {hsrc : src.view.WordExact} {hdst : dst.view.WordExact}
    {W : Waits sig Unit} {kk : PUnit → Prog (TpuEff nD τ sig (Elt F) Λ₀ .tc) α} {Q : α → sProp (MT nD τ sig Unit (Elt F) ℕ UU ℕ)} :
    iprop(knows P κ c ∗ cred (tallyAt (cellA k c i) () N) ∗ owes (c : Thread nD τ) (oweRS c n + oweAG c m) W ∗ atPos ER (cellA k c i) 0 ∅ 0)
      ⊢ iprop(((∃ W' : Waits sig Unit, owes (c : Thread nD τ) (oweRS c n + oweAG c m) W') -∗ semVal (cellA k c i) 0 -∗ dmaPay P c k.val i
            -∗ wp frame (wpE defs₀ 𝒱 (c : Thread nD τ) none) Set.univ (kk ⟨⟩) Q)
          -∗ wp frame (wpE defs₀ 𝒱 (c : Thread nD τ) none) Set.univ (.op (.waitDma2 s src dst hsrc hdst) kk) Q) := by
  subst hs hd
  unfold knows
  iintro ⟨⟨#Hc, #Hl, -⟩, Hcr, HO, Hat⟩ Hk
  ihave #Hi := (cellsA_at P κ k c i) $$ Hc
  iapply (Rounds.wp_wait_rest_token 𝒱 ER (Rd P) (c : Thread nD τ) none (κ := κ (cellA k c i))
      (wpE_waitDma2_eq 𝒱 (c : Thread nD τ) none Set.univ) (Set.mem_univ _) () (O := oweRS c n + oweAG c m) (W := W) (R := 0) (m := 0) (T := ∅)
      ((Nat.zero_add _).trans (hN.trans (expect_A P c k i).symm))) $$ [Hcr HO Hat]
  · isplitr; · iexact Hi
    isplitl [Hcr]; · rw [hN]; iexact Hcr
    isplitl [HO]; · iexact HO
    isplitr; · iapply (mayWait_owe c (.dma (semA k i)) b n m hb hn hm); iexact Hl
    iexact Hat
  iintro ⟨HO, Hat, -, Hpay⟩
  imod (close P (κ (cellA k c i)) (cellA k c i)) $$ [Hat] with Hs
  · isplitr; · iexact Hi
    iexact Hat
  iapply Hk $$ [HO] [Hs] [Hpay]
  · iexists _; iexact HO
  · iexact Hs
  · iapply (Entails.of_eq (rest_A P c k i)); iexact Hpay

/-- Step `i` of the scatter: the chunk, and the same chunk of the devices behind, go to the next device. -/
theorem wp_scatter_send (i : Fin 31) {n : Dev nD} (hn : n = up c 1) {s₁ s₂ : DmaSem sig} (h₁ : s₁ = semA 0 i) (h₂ : s₂ = semA 1 i)
    {src dst : Memref sig .tc .vmem S32x1024 .f32} (hs : src = chM (dn c i.val)) (hd : dst = slM i)
    {hsc : (dst : Memref sig (Dev.tc n : Thread nD τ).2.kind .vmem S32x1024 .f32).view.ref.isScScratch = false}
    {hsrc : src.view.WordExact} {hdst} {hsem}
    {W : Waits sig Unit} {kk : PUnit → Prog (TpuEff nD τ sig (Elt F) Λ₀ .tc) α} {Q : α → sProp (MT nD τ sig Unit (Elt F) ℕ UU ℕ)} :
    iprop(knows P κ c ∗ piece c (dn c i.val) (acc P i.val c) ∗ slotAny (F := F) (up c 1) i
        ∗ (bigSep (behind c i.val) fun d => pieceAny (F := F) d (dn c i.val))
        ∗ owes (c : Thread nD τ) (oweRS c i.val + oweAG c 0) W ∗ dutyTok ER (rsS c i) 0 false ∗ dutyTok ER (rsR (up c 1) i) 0 false)
      ⊢ iprop(((cred (tallyAt (rsS c i) () N) ∗ owes (c : Thread nD τ) (oweRS c (i.val + 1) + oweAG c 0) W)
            -∗ wp frame (wpE defs₀ 𝒱 (c : Thread nD τ) none) Set.univ (kk ⟨⟩) Q)
          -∗ wp frame (wpE defs₀ 𝒱 (c : Thread nD τ) none) Set.univ
            (.op (.enqueueDma src (.remote (Dev.tc n : Thread nD τ) dst (.dma s₁) hsc) (.dma s₂) hsrc hdst hsem) kk) Q) := by
  subst hn h₁ h₂ hs hd
  unfold knows slotAny
  iintro ⟨⟨#Hc, -, #H0, -, #H1, -⟩, Hp, ⟨%g, Hs⟩, Hb, HO, Ht1, Ht2⟩ Hk
  ihave Hp' := (piece_open c (dn c i.val) _) $$ Hp
  icases Hp' with ⟨%f, %hf, Hp⟩
  ihave Hs' := (slot_open (up c 1) i g) $$ Hs
  icases Hs' with ⟨%fd, -, Hs⟩
  ihave #Hi1 := (cellsA_at P κ 0 c i) $$ Hc
  ihave #Hi2 := (cellsA_at P κ 1 (up c 1) i) $$ Hc
  ihave #Hr1 := (openA_at (F := F) 0 c i) $$ H0
  ihave #Hr2 := (openA_at (F := F) 1 (up c 1) i) $$ H1
  iapply (Rounds.wp_send_landing_pointsTo_with 𝒱 ER (Rd P) (c : Thread nD τ) none (c' := (up c 1 : Thread nD τ)) (src := chM (dn c i.val)) (dst := slM i)
      (sS := .dma (semA 0 i)) (sem := .dma (semA 1 i)) (q := fullShare) (fs := f) (fd := fd)
      (F := bigSep (behind c i.val) fun d => pieceAny (F := F) d (dn c i.val)) (κ₁ := κ (rsS c i)) (κ₂ := κ (rsR (up c 1) i))
      (r₁ := 0) (r₂ := 0) (d₁ := false) (d₂ := false)
      (by rw [duties_A]; exact Finset.mem_singleton_self _) (by rw [duties_A]; exact Finset.mem_singleton_self _)
      () () N rfl (amount_A P c 0 i false) (amount_A P (up c 1) 1 i false) (O₀ := oweRS c i.val + oweAG c 0) (oweRS c (i.val + 1) + oweAG c 0)
      (by rw [oweRS_step]; exact add_right_comm _ _ _) (W := W)
      (by rw [pay_rsS])
      (by
        rw [pay_rsR]; unfold rsPay
        rw [dn_up, dn_up_succ, bigSep_take (behind_up c i.val (by have := i.isLt; omega)) (notMem_behind c i.val), hf]
        iintro ⟨⟨Hs, Hb⟩, Hp⟩
        isplitl [Hs]; · iapply (slot_landed (up c 1) i fd (acc P i.val c)); iexact Hs
        isplitl [Hp]
        · unfold pieceAny; iexists _; iapply (piece_intro c (dn c i.val) f); iexact Hp
        · iexact Hb)) $$ [Hp Hs Hb HO Ht1 Ht2]
  · isplitr; · iexact Hi1
    isplitr; · iexact Hi2
    isplitl [Hp]; · iexact Hp
    isplitl [Hs Hb]
    · isplitl [Hs]; · iexact Hs
      iexact Hb
    isplitl [HO]; · iexact HO
    isplitl [Ht1]; · iexact Ht1
    isplitr; · iexact Hr1
    isplitl [Ht2]; · iexact Ht2
    iexact Hr2
  iintro H
  iapply Hk; iexact H

/-- Step `i` of the gathering: the finished chunk is copied over the next device's, and the same chunk of the devices further on
    goes with it. -/
theorem wp_gather_send (i : Fin 31) {n : Dev nD} (hn : n = up c 1) {s₁ s₂ : DmaSem sig} (h₁ : s₁ = semA 2 i) (h₂ : s₂ = semA 3 i)
    {src dst : Memref sig .tc .vmem S32x1024 .f32} (hs : src = chM (dn c (i.val + 31))) (hd : dst = chM (dn c (i.val + 31)))
    {hsc : (dst : Memref sig (Dev.tc n : Thread nD τ).2.kind .vmem S32x1024 .f32).view.ref.isScScratch = false}
    {hsrc : src.view.WordExact} {hdst} {hsem}
    {W : Waits sig Unit} {kk : PUnit → Prog (TpuEff nD τ sig (Elt F) Λ₀ .tc) α} {Q : α → sProp (MT nD τ sig Unit (Elt F) ℕ UU ℕ)} :
    iprop(knows P κ c ∗ piece c (dn c (i.val + 31)) (fin P (dn c (i.val + 31)))
        ∗ (bigSep (ahead c (31 - i.val)) fun d => pieceAny (F := F) d (dn c (i.val + 31)))
        ∗ owes (c : Thread nD τ) (oweRS c 31 + oweAG c i.val) W ∗ dutyTok ER (agS c i) 0 false ∗ dutyTok ER (agR (up c 1) i) 0 false)
      ⊢ iprop(((cred (tallyAt (agS c i) () N) ∗ owes (c : Thread nD τ) (oweRS c 31 + oweAG c (i.val + 1)) W)
            -∗ wp frame (wpE defs₀ 𝒱 (c : Thread nD τ) none) Set.univ (kk ⟨⟩) Q)
          -∗ wp frame (wpE defs₀ 𝒱 (c : Thread nD τ) none) Set.univ
            (.op (.enqueueDma src (.remote (Dev.tc n : Thread nD τ) dst (.dma s₁) hsc) (.dma s₂) hsrc hdst hsem) kk) Q) := by
  subst hn h₁ h₂ hs hd
  have hi := i.isLt
  have e31 : 31 - i.val = (30 - i.val) + 1 := by omega
  have ej : dn (up c 1) i.val = dn c (i.val + 31) := by rw [← dn_up_1_31, dn_dn, add_comm]
  unfold knows
  rw [e31, bigSep_take (ahead_up c (30 - i.val) (by omega)) (notMem_ahead (up c 1) (30 - i.val))]
  unfold pieceAny
  iintro ⟨⟨#Hc, -, -, #H2, -, #H3⟩, Hp, ⟨⟨%g, Hd⟩, Hb⟩, HO, Ht1, Ht2⟩ Hk
  ihave Hp' := (piece_open c _ _) $$ Hp
  icases Hp' with ⟨%f, %hf, Hp⟩
  ihave Hd' := (piece_open (up c 1) _ g) $$ Hd
  icases Hd' with ⟨%fd, -, Hd⟩
  ihave #Hi1 := (cellsA_at P κ 2 c i) $$ Hc
  ihave #Hi2 := (cellsA_at P κ 3 (up c 1) i) $$ Hc
  ihave #Hr1 := (openA_at (F := F) 2 c i) $$ H2
  ihave #Hr2 := (openA_at (F := F) 3 (up c 1) i) $$ H3
  iapply (Rounds.wp_send_pointsTo_with 𝒱 ER (Rd P) (c : Thread nD τ) none (c' := (up c 1 : Thread nD τ)) (src := chM (dn c (i.val + 31)))
      (dst := chM (dn c (i.val + 31)))
      (sS := .dma (semA 2 i)) (sem := .dma (semA 3 i)) (q := fullShare) (fs := f) (fd := fd)
      (F := bigSep (ahead (up c 1) (30 - i.val)) fun d => iprop(∃ v : Vec F S32x1024 .f32, piece d (dn c (i.val + 31)) v))
      (κ₁ := κ (agS c i)) (κ₂ := κ (agR (up c 1) i))
      (r₁ := 0) (r₂ := 0) (d₁ := false) (d₂ := false)
      (by rw [duties_A]; exact Finset.mem_singleton_self _) (by rw [duties_A]; exact Finset.mem_singleton_self _)
      () () N rfl (amount_A P c 2 i false) (amount_A P (up c 1) 3 i false) (O₀ := oweRS c 31 + oweAG c i.val) (oweRS c 31 + oweAG c (i.val + 1))
      (by rw [oweAG_step]; exact (add_assoc _ _ _).symm) (W := W)
      (by
        rw [pay_agS]; unfold agSPay; rw [← hf]; exact piece_intro c (dn c (i.val + 31)) f)
      (by
        rw [pay_agR]; unfold agPay pieceAny
        rw [ej, hf]
        iintro ⟨Hs, Hb⟩
        isplitl [Hs]; · iapply (piece_landed (up c 1) (dn c (i.val + 31)) fd _); iexact Hs
        iexact Hb)) $$ [Hp Hd Hb HO Ht1 Ht2]
  · isplitr; · iexact Hi1
    isplitr; · iexact Hi2
    isplitl [Hp]; · iexact Hp
    isplitl [Hd Hb]
    · isplitl [Hd]; · iexact Hd
      iexact Hb
    isplitl [HO]; · iexact HO
    isplitl [Ht1]; · iexact Ht1
    isplitr; · iexact Hr1
    isplitl [Ht2]; · iexact Ht2
    iexact Hr2
  iintro H
  iapply Hk; iexact H

end Rules

end Cert.KernelIdeal.RingProof
-- ==== Proof.Scatter.lean ====
/- One step of the scatter, at any device and any trip of its loop, and the loop's invariant. -/
module

public import proofs.«01_k».proof.Proof.Transfers
public import proofs.«01_k».proof.Proof.Gen.KernelIdeal.Skeleton
public import proofs.«01_k».proof.Proof.Gen.KernelIdeal.Loops
public import Idealize.ShloMosaic.Lib.Pipeline.Value

@[expose] public section

noncomputable section

namespace Cert.KernelIdeal.RingProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- What step `i` of the scatter needs on device `c`. -/
def rsTodo (c : Dev nD) (i : Fin 31) : sProp 𝕄 :=
  iprop(dutyTok ER (rsS c i) 0 false ∗ dutyTok ER (rsR (up c 1) i) 0 false ∗ atPos ER (rsS c i) 0 ∅ 0 ∗ atPos ER (rsR c i) 0 ∅ 0
    ∗ cred (tallyAt (rsR c i) () N) ∗ slotAny (F := F) (up c 1) i)
/-- What step `i` of the scatter leaves on device `c`. -/
def rsDone (c : Dev nD) (i : Fin 31) : sProp 𝕄 := iprop(semVal (rsS c i) 0 ∗ semVal (rsR c i) 0 ∗ slotAny (F := F) c i)

/-- Before step `n` of the scatter, device `c` holds chunk `c − n` with `n` contributions added, its chunks further back untouched,
    chunk `c − n` of the `n` devices behind it, and the means of the steps left. -/
def rsInv (P : Parts F) (c : Dev nD) (n : ℕ) : sProp 𝕄 :=
  iprop(piece c (dn c n) (acc P n c) ∗ (bigSep (beyond c n) fun j => piece c j (ch P c j))
    ∗ (bigSep (behind c n) fun d => pieceAny (F := F) d (dn c n))
    ∗ bigSep (rem n) (rsTodo (F := F) c) ∗ bigSep (past n) (rsDone (F := F) c)
    ∗ ∃ W : Waits sig Unit, owes (c : Thread nD τ) (oweRS c n + oweAG c 0) W)

theorem pay2_eq (a b : Vec F S32x1024 .f32) (u : Vec F S1x32x1024 .f32) (h : shapeCast S32x1024 u shapeCasts_S1x32x1024_S32x1024 = b) :
    k0_pay2 (F := F) (k0_pay3 a) u = addf a b := by
  unfold k0_pay2 k0_pay3
  rw [shapeCast_self, h]

variable (𝒱 : Variants) (P : Parts F) (κ : GSem nD τ sig → ℕ) (c : Dev nD)
  (a0 a1 : Memref sig .tc .vmem S1024x1024 .f32) (h0 : a0.IsWhole) (h1 : a1.IsWhole)
  (a2 a3 : Memref sig .tc .vmem S1024x8x128 .f32) (h2 : a2.IsWhole) (h3 : a3.IsWhole)
  (a4 : Memref sig .tc .vmem S1024x1024 .f32) (h4 : a4.IsWhole)
  (h5 : (Memref.whole cc0_stg5_0 : Memref sig .tc .vmem S1024x1024 .f32).IsWhole)
  (h6 : (Memref.whole cc0_scratch0 : Memref sig .tc .vmem S31x32x1024 .f32).IsWhole)

set_option maxHeartbeats 2000000 in
theorem scatter_step (v2 v4 : BitVec 32) (t : Fin k0_t1_loop.trips) :
    iprop(knows P κ c ∗ rsInv P c t.val)
      ⊢ wp frame (wpE defs₀ 𝒱 (c : Thread nD τ) none) Set.univ
        (k0_t1_body (F := F) a0 h0 a1 h1 a2 h2 a3 h3 a4 h4 (Memref.whole cc0_stg5_0) h5 (Memref.whole cc0_scratch0) h6
          cc0_scratch1 cc0_scratch2 cc0_scratch3 cc0_scratch4 c v2 v4 t ())
        (fun _ => rsInv P c (t.val + 1)) := by
  obtain ⟨i, hi⟩ : ∃ i : Fin 31, i.val = t.val := ⟨st1 t, rfl⟩
  have hlt := i.isLt
  unfold rsInv
  rw [← hi, bigSep_take (rem_insert i) (notMem_rem i), bigSep_take (past_insert i) (notMem_past i),
    bigSep_take (beyond_insert c i.val hlt) (notMem_beyond c i.val hlt)]
  unfold rsTodo rsDone
  iintro ⟨#Hk, Hp, ⟨Hq, Hbe⟩, Hbh, ⟨⟨Ht1, Ht2, Ha1, Ha2, Hcr, Hs⟩, Hrem⟩, Hpast, ⟨%W, HO⟩⟩
  unfold k0_t1_body
  rw [k0_part1_eq_skeleton]
  unfold k0_part1_skel
  iapply (wp_scatter_send 𝒱 P κ c i (dev3_eq c _)
    (sem_of 0 _ rfl i (k0_off1_inb t) (by rw [k0_off1_eq, hi])) (sem_of 1 _ rfl i (k0_off1_inb t) (by rw [k0_off1_eq, hi]))
    (chM_of (dn c i.val) (k0_off3_inb c t) (by rw [off3_eq, hi])) (slM_of i (k0_off2_inb t) (by rw [k0_off2_eq, hi])))
    $$ [Hp Hs Hbh HO Ht1 Ht2]
  · isplitr; · iexact Hk
    isplitl [Hp]; · iexact Hp
    isplitl [Hs]; · iexact Hs
    isplitl [Hbh]; · iexact Hbh
    isplitl [HO]; · iexact HO
    isplitl [Ht1] <;> iassumption
  iintro ⟨Hc1, HO⟩
  iapply (wp_wait_A 𝒱 P κ c 0 i (i.val + 1) 0 0 (by rw [lvS_A]; simp) (by omega) (by omega)
    (sem_of 0 _ rfl i (k0_off1_inb t) (by rw [k0_off1_eq, hi])) (chM_of (dn c i.val) (k0_off3_inb c t) (by rw [off3_eq, hi])) (credit_chunk _)) $$ [Hc1 HO Ha1]
  · isplitr; · iexact Hk
    isplitl [Hc1]; · iexact Hc1
    isplitl [HO] <;> iassumption
  iintro ⟨%W1, HO⟩ Hv1 -
  iapply (wp_wait_A 𝒱 P κ c 1 i (i.val + 1) 0 (2 + i.val) (by rw [lvS_A]; simp) (by omega) (by omega)
    (sem_of 1 _ rfl i (k0_off1_inb t) (by rw [k0_off1_eq, hi])) (slM_of i (k0_off2_inb t) (by rw [k0_off2_eq, hi])) (credit_slot i)) $$ [Hcr HO Ha2]
  · isplitr; · iexact Hk
    isplitl [Hcr]; · iexact Hcr
    isplitl [HO] <;> iassumption
  iintro HO Hv2 Hpay
  ihave Hpay := (show dmaPay P c (1 : Fin 4).val i ⊢ iprop(slot c i (acc P i.val (dn c 1)) ∗ bigSep (behind c (i.val + 1)) fun d => pieceAny (F := F) d (dn c (i.val + 1))) from .rfl) $$ Hpay
  icases Hpay with ⟨Hs, Hbh⟩
  iapply (wp_load_piece 𝒱 c (dn c (i.val + 1)) (ch P c (dn c (i.val + 1))) (k0_off4_inb c t) (by rw [off4_eq, hi])) $$ [Hq]
  · iexact Hq
  iintro Hq
  iapply (wp_load_slot 𝒱 c i (acc P i.val (dn c 1)) (k0_off5_inb t) (by rw [k0_off5_eq, hi])) $$ [Hs]
  · iexact Hs
  iintro %u %hu Hs
  iapply (wp_load_piece 𝒱 c (dn c (i.val + 1)) (ch P c (dn c (i.val + 1))) (k0_off4_inb c t) (by rw [off4_eq, hi])) $$ [Hq]
  · iexact Hq
  iintro Hq
  iapply (wp_store_piece 𝒱 c (dn c (i.val + 1)) (ch P c (dn c (i.val + 1))) _ (k0_off4_inb c t) (by rw [off4_eq, hi])) $$ [Hq]
  · iexact Hq
  iintro Hq
  iapply (le_wp_ret _ _ _ PUnit.unit _)
  isplitl [Hq]
  · rw [pay2_eq _ _ u hu]; iexact Hq
  isplitl [Hbe]; · iexact Hbe
  isplitl [Hbh]; · iexact Hbh
  isplitl [Hrem]; · iexact Hrem
  isplitl [Hv1 Hv2 Hs Hpast]
  · isplitl [Hv1 Hv2 Hs]
    · isplitl [Hv1]; · iexact Hv1
      isplitl [Hv2]; · iexact Hv2
      unfold slotAny; iexists _; iexact Hs
    · iexact Hpast
  iexact HO

end Cert.KernelIdeal.RingProof
-- ==== Proof.Gather.lean ====
/- One step of the gathering, at any device and any trip of its loop, and the loop's invariant. -/
module

public import proofs.«01_k».proof.Proof.Transfers
public import proofs.«01_k».proof.Proof.Gen.KernelIdeal.Skeleton
public import proofs.«01_k».proof.Proof.Gen.KernelIdeal.Loops
public import Idealize.ShloMosaic.Lib.Pipeline.Value

@[expose] public section

noncomputable section

namespace Cert.KernelIdeal.RingProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- What step `i` of the gathering needs on device `c`. -/
def agTodo (c : Dev nD) (i : Fin 31) : sProp 𝕄 :=
  iprop(dutyTok ER (agS c i) 0 false ∗ dutyTok ER (agR (up c 1) i) 0 false ∗ atPos ER (agS c i) 0 ∅ 0 ∗ atPos ER (agR c i) 0 ∅ 0
    ∗ cred (tallyAt (agR c i) () N))
/-- What step `i` of the gathering leaves on device `c`. -/
def agDone (c : Dev nD) (i : Fin 31) : sProp 𝕄 := iprop(semVal (agS c i) 0 ∗ semVal (agR c i) 0)

/-- Before step `n` of the gathering, device `c` holds the finished chunks `c + 1` down to `c + 1 − n`, the last of these chunks of
    the devices further on, and the means of the steps left. -/
def agInv (P : Parts F) (c : Dev nD) (n : ℕ) : sProp 𝕄 :=
  iprop((bigSep (owned c n) fun j => piece c j (fin P j))
    ∗ (bigSep (ahead c (31 - n)) fun d => pieceAny (F := F) d (dn c (n + 31)))
    ∗ bigSep (rem n) (agTodo (F := F) c) ∗ bigSep (past n) (agDone (F := F) c)
    ∗ ∃ W : Waits sig Unit, owes (c : Thread nD τ) (oweRS c 31 + oweAG c n) W)

variable (𝒱 : Variants) (P : Parts F) (κ : GSem nD τ sig → ℕ) (c : Dev nD)
  (a0 a1 : Memref sig .tc .vmem S1024x1024 .f32) (h0 : a0.IsWhole) (h1 : a1.IsWhole)
  (a2 a3 : Memref sig .tc .vmem S1024x8x128 .f32) (h2 : a2.IsWhole) (h3 : a3.IsWhole)
  (a4 : Memref sig .tc .vmem S1024x1024 .f32) (h4 : a4.IsWhole)
  (h5 : (Memref.whole cc0_stg5_0 : Memref sig .tc .vmem S1024x1024 .f32).IsWhole)
  (h6 : (Memref.whole cc0_scratch0 : Memref sig .tc .vmem S31x32x1024 .f32).IsWhole)

set_option maxHeartbeats 2000000 in
theorem gather_step (t : Fin k0_t2_loop.trips) :
    iprop(knows P κ c ∗ agInv P c t.val)
      ⊢ wp frame (wpE defs₀ 𝒱 (c : Thread nD τ) none) Set.univ
        (k0_t2_body (F := F) a0 h0 a1 h1 a2 h2 a3 h3 a4 h4 (Memref.whole cc0_stg5_0) h5 (Memref.whole cc0_scratch0) h6
          cc0_scratch1 cc0_scratch2 cc0_scratch3 cc0_scratch4 c t ())
        (fun _ => agInv P c (t.val + 1)) := by
  obtain ⟨i, hi⟩ : ∃ i : Fin 31, i.val = t.val := ⟨st2 t, rfl⟩
  have hlt := i.isLt
  have hmem := mem_owned c i.val hlt
  have e32 : dn c (i.val + 1 + 31) = dn c i.val := dn_add_32 c i.val
  have eah : 31 - (i.val + 1) = 30 - i.val := by omega
  unfold agInv
  rw [← hi, bigSep_take (rem_insert i) (notMem_rem i), bigSep_take (past_insert i) (notMem_past i),
    bigSep_take (owned_insert c i.val hlt) (notMem_owned c i.val hlt),
    bigSep_take (Finset.insert_erase hmem).symm (Finset.notMem_erase _ _), e32, eah]
  unfold agTodo agDone
  iintro ⟨#Hk, ⟨Hp, How⟩, Hbh, ⟨⟨Ht1, Ht2, Ha1, Ha2, Hcr⟩, Hrem⟩, Hpast, ⟨%W, HO⟩⟩
  unfold k0_t2_body
  iapply (wp_gather_send 𝒱 P κ c i (dev4_eq c _)
    (sem_of 2 _ rfl i (k0_off6_inb t) (by rw [k0_off6_eq, hi])) (sem_of 3 _ rfl i (k0_off6_inb t) (by rw [k0_off6_eq, hi]))
    (chM_of (dn c (i.val + 31)) (k0_off7_inb c t) (by rw [off7_eq, hi])) (chM_of (dn c (i.val + 31)) (k0_off7_inb c t) (by rw [off7_eq, hi])))
    $$ [Hp Hbh HO Ht1 Ht2]
  · isplitr; · iexact Hk
    isplitl [Hp]; · iexact Hp
    isplitl [Hbh]; · iexact Hbh
    isplitl [HO]; · iexact HO
    isplitl [Ht1] <;> iassumption
  iintro ⟨Hc1, HO⟩
  iapply (wp_wait_A 𝒱 P κ c 3 i 31 (i.val + 1) (33 + i.val) (by rw [lvS_A]; simp) (by omega) (by omega)
    (sem_of 3 _ rfl i (k0_off6_inb t) (by rw [k0_off6_eq, hi])) (chM_of (dn c i.val) (k0_off8_inb c t) (by rw [off8_eq, hi]))
    (credit_chunk _)) $$ [Hcr HO Ha2]
  · isplitr; · iexact Hk
    isplitl [Hcr]; · iexact Hcr
    isplitl [HO] <;> iassumption
  iintro ⟨%W1, HO⟩ Hv2 Hpay
  ihave Hpay := (show dmaPay P c (3 : Fin 4).val i ⊢ iprop(piece c (dn c i.val) (fin P (dn c i.val))
    ∗ bigSep (ahead c (30 - i.val)) fun d => pieceAny (F := F) d (dn c i.val)) from .rfl) $$ Hpay
  icases Hpay with ⟨Hn, Hbh⟩
  iapply (wp_wait_A 𝒱 P κ c 2 i 31 (i.val + 1) 0 (by rw [lvS_A]; simp) (by omega) (by omega)
    (sem_of 2 _ rfl i (k0_off6_inb t) (by rw [k0_off6_eq, hi])) (chM_of (dn c (i.val + 31)) (k0_off7_inb c t) (by rw [off7_eq, hi]))
    (credit_chunk _)) $$ [Hc1 HO Ha1]
  · isplitr; · iexact Hk
    isplitl [Hc1]; · iexact Hc1
    isplitl [HO] <;> iassumption
  iintro HO Hv1 Hp
  ihave Hp := (show dmaPay P c (2 : Fin 4).val i ⊢ piece c (dn c (i.val + 31)) (fin P (dn c (i.val + 31))) from .rfl) $$ Hp
  iapply (le_wp_ret _ _ _ PUnit.unit _)
  isplitl [Hn Hp How]
  · isplitl [Hn]; · iexact Hn
    isplitl [Hp]; · iexact Hp
    iexact How
  isplitl [Hbh]; · iexact Hbh
  isplitl [Hrem]; · iexact Hrem
  isplitl [Hv1 Hv2 Hpast]
  · isplitl [Hv1 Hv2]
    · isplitl [Hv1] <;> iassumption
    · iexact Hpast
  iexact HO

end Cert.KernelIdeal.RingProof
-- ==== Proof.Local.lean ====
/- Device `c`'s own heads: what its output buffer holds before the ring starts. -/
module

public import proofs.«01_k».proof.Proof.Transfers
public import proofs.«01_k».proof.Proof.Gen.KernelIdeal.Skeleton
public import Idealize.ShloMosaic.Lib.Pipeline.Value
public import Idealize.ShloMosaic.Lib.VecWindow

@[expose] public section

noncomputable section

namespace Cert.KernelIdeal.RingProof

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-! ## The parts of the operands one head takes -/

/-- Head `h`'s columns of the query weights. -/
def headCols (w : Vec F S1024x1024 .f32) (h : Fin 8) : Vec F S1024x128 .f32 := fun i =>
  w (ix2 (i 0) ⟨128 * h.val + (i 1).val, by have h1 : (i 1).val < 128 := (i 1).isLt; have := h.isLt; show _ < 1024; omega⟩)
/-- Head `h`'s keys or values. -/
def headOf (k : Vec F S1024x8x128 .f32) (h : Fin 8) : Vec F S1024x1x128 .f32 := fun i => k (ix3 (i 0) h (i 2))
/-- Head `h`'s rows of the output weights. -/
def headRows (w : Vec F S1024x1024 .f32) (h : Fin 8) : Vec F S128x1024 .f32 := fun i =>
  w (ix2 ⟨128 * h.val + (i 0).val, by have h1 : (i 0).val < 128 := (i 0).isLt; have := h.isLt; show _ < 1024; omega⟩ (i 1))

theorem readAt_headCols (w : Vec F S1024x1024 .f32) (h : Fin 8) {off : Fin 2 → ℕ} (inb : ∀ a, off a + S1024x128.size a ≤ S1024x1024.size a)
    (ho : off = ![0, 128 * h.val]) :
    View.readAt (Elt F) (Memref.whole cc0_stg1_0 : Memref sig .tc .vmem S1024x1024 .f32).view (Rect.unit (s := S1024x1024) off S1024x128.size inb).toLoadRect w
      = headCols w h := by
  subst ho
  funext i
  show w ((Rect.unit (s := S1024x1024) ![0, 128 * h.val] S1024x128.size inb).emb i) = _
  unfold headCols
  congr 1
  funext a
  refine Fin.ext ?_
  match a with
  | 0 => show 0 + 1 * (i 0).val = (i 0).val; omega
  | 1 => show 128 * h.val + 1 * (i 1).val = 128 * h.val + (i 1).val; omega

theorem readAt_headRows (w : Vec F S1024x1024 .f32) (h : Fin 8) {off : Fin 2 → ℕ} (inb : ∀ a, off a + S128x1024.size a ≤ S1024x1024.size a)
    (ho : off = ![128 * h.val, 0]) :
    View.readAt (Elt F) (Memref.whole cc0_stg4_0 : Memref sig .tc .vmem S1024x1024 .f32).view (Rect.unit (s := S1024x1024) off S128x1024.size inb).toLoadRect w
      = headRows w h := by
  subst ho
  funext i
  show w ((Rect.unit (s := S1024x1024) ![128 * h.val, 0] S128x1024.size inb).emb i) = _
  unfold headRows
  congr 1
  funext a
  refine Fin.ext ?_
  match a with
  | 0 => show 128 * h.val + 1 * (i 0).val = 128 * h.val + (i 0).val; omega
  | 1 => show 0 + 1 * (i 1).val = (i 1).val; omega

theorem emb_head (k : Vec F S1024x8x128 .f32) (h : Fin 8) (inb : ∀ a, (![0, h.val, 0] : Fin 3 → ℕ) a + S1024x1x128.size a ≤ S1024x8x128.size a) (i : S1024x1x128.Idx) :
    k ((Rect.unit (s := S1024x8x128) ![0, h.val, 0] S1024x1x128.size inb).emb i) = headOf k h i := by
  unfold headOf
  congr 1
  funext a
  refine Fin.ext ?_
  have h1 : (i 1).val < 1 := (i 1).isLt
  match a with
  | 0 => show 0 + 1 * (i 0).val = (i 0).val; omega
  | 1 => show h.val + 1 * (i 1).val = h.val; omega
  | 2 => show 0 + 1 * (i 2).val = (i 2).val; omega

theorem readAt_headK (k : Vec F S1024x8x128 .f32) (h : Fin 8) {off : Fin 3 → ℕ} (inb : ∀ a, off a + S1024x1x128.size a ≤ S1024x8x128.size a)
    (ho : off = ![0, h.val, 0]) :
    View.readAt (Elt F) (Memref.whole cc0_stg2_0 : Memref sig .tc .vmem S1024x8x128 .f32).view (Rect.unit (s := S1024x8x128) off S1024x1x128.size inb).toLoadRect k
      = headOf k h := by
  subst ho; funext i; exact emb_head k h inb i
theorem readAt_headV (k : Vec F S1024x8x128 .f32) (h : Fin 8) {off : Fin 3 → ℕ} (inb : ∀ a, off a + S1024x1x128.size a ≤ S1024x8x128.size a)
    (ho : off = ![0, h.val, 0]) :
    View.readAt (Elt F) (Memref.whole cc0_stg3_0 : Memref sig .tc .vmem S1024x8x128 .f32).view (Rect.unit (s := S1024x8x128) off S1024x1x128.size inb).toLoadRect k
      = headOf k h := by
  subst ho; funext i; exact emb_head k h inb i

/-! ## The device's own contribution -/

/-- Head `h`'s contribution to the output. -/
def headOut (x wq : Vec F S1024x1024 .f32) (k v : Vec F S1024x8x128 .f32) (wo : Vec F S1024x1024 .f32) (h : Fin 8) : FVec F S1024x1024 .f32 :=
  k0_pay15 x k0_pay5 (headCols wq h) (headOf k h) (headOf v h) (headRows wo h)

/-- The eight heads' contributions, added in order. -/
def localOut (x wq : Vec F S1024x1024 .f32) (k v : Vec F S1024x8x128 .f32) (wo : Vec F S1024x1024 .f32) : Vec F S1024x1024 .f32 :=
  addf (addf (addf (addf (addf (addf (addf (headOut x wq k v wo 0) (headOut x wq k v wo 1)) (headOut x wq k v wo 2)) (headOut x wq k v wo 3))
    (headOut x wq k v wo 4)) (headOut x wq k v wo 5)) (headOut x wq k v wo 6)) (headOut x wq k v wo 7)

/-! ## The run -/

section Acc

variable (wq : Vec F S1024x1024 .f32) (k v : Vec F S1024x8x128 .f32) (wo : Vec F S1024x1024 .f32)
  (v14 : FVec F S1024x1024 .f32) (v20 : IVec S1024x1024 1) (v23 v25 v27 : FVec F S1024x128 .f32) (cst : FVec F S1024x1024 .f32)

/-- The output buffer after the first head, the second, and so on, as the kernel forms them. -/
def acc0 : Vec F S1024x1024 .f32 := k0_pay9 v20 v23 v25 v27 cst (headRows wo 0)
def acc1 : Vec F S1024x1024 .f32 :=
  k0_pay12 (k0_pay10 (headOf v 1)) (k0_pay11 v14 v20 (headCols wq 1) (headOf k 1)) (headRows wo 1) (acc0 wo v20 v23 v25 v27 cst)
def acc2 : Vec F S1024x1024 .f32 :=
  k0_pay14 (k0_pay13 v14 v20 (headCols wq 2) (headOf k 2) (headOf v 2)) (headRows wo 2) (acc1 wq k v wo v14 v20 v23 v25 v27 cst)
def acc3 : Vec F S1024x1024 .f32 :=
  k0_pay16 (k0_pay15 v14 v20 (headCols wq 3) (headOf k 3) (headOf v 3) (headRows wo 3)) (acc2 wq k v wo v14 v20 v23 v25 v27 cst)
def acc4 : Vec F S1024x1024 .f32 :=
  k0_pay17 v14 v20 (headCols wq 4) (headOf k 4) (headOf v 4) (headRows wo 4) (acc3 wq k v wo v14 v20 v23 v25 v27 cst)
def acc5 : Vec F S1024x1024 .f32 :=
  k0_pay18 v14 v20 (headCols wq 5) (headOf k 5) (headOf v 5) (headRows wo 5) (acc4 wq k v wo v14 v20 v23 v25 v27 cst)
def acc6 : Vec F S1024x1024 .f32 :=
  k0_pay20 v20 (k0_pay19 v14 (headCols wq 6)) (headOf k 6) (headOf v 6) (headRows wo 6) (acc5 wq k v wo v14 v20 v23 v25 v27 cst)
def acc7 : Vec F S1024x1024 .f32 :=
  k0_pay1 v20 (k0_pay21 (headOf v 7)) (k0_pay22 v14 (headCols wq 7) (headOf k 7)) (headRows wo 7) (acc6 wq k v wo v14 v20 v23 v25 v27 cst)

end Acc

section Whole

variable (w : Vec F S1024x1024 .f32) (L : List (View.Piece (Elt F) S1024x1024 .f32))
  (inb : ∀ a, (![0, 0] : Fin 2 → ℕ) a + S1024x1024.size a ≤ S1024x1024.size a)

theorem reread_of (v : View sig .tc .vmem S1024x1024 .f32) :
    v.readCov (⟨Rect.unit (s := S1024x1024) ![0, 0] S1024x1024.size inb, w⟩ :: L) (Rect.unit (s := S1024x1024) ![0, 0] S1024x1024.size inb).toLoadRect = w :=
  View.readCov_full v (off := ![0, 0]) (off' := ![0, 0]) inb inb w L
theorem stored_of (v : View sig .tc .vmem S1024x1024 .f32) (z : v.ty.Contents (Elt F)) :
    v.read (Elt F) (v.writes (Elt F) z (⟨Rect.unit (s := S1024x1024) ![0, 0] S1024x1024.size inb, w⟩ :: L)) = w :=
  View.read_writes_full v z (off := ![0, 0]) inb w L

/-- Reading the output buffer back whole gives what the last whole store stored. -/
theorem reread :
    (Memref.whole cc0_stg5_0 : Memref sig .tc .vmem S1024x1024 .f32).view.readCov
      (⟨Rect.unit (s := S1024x1024) ![0, 0] S1024x1024.size inb, w⟩ :: L) (Rect.unit (s := S1024x1024) ![0, 0] S1024x1024.size inb).toLoadRect = w :=
  reread_of w L inb _
/-- A store of the whole output buffer leaves what it stores. -/
theorem stored (c : Dev nD) (z : Vec F S1024x1024 .f32) :
    (((Memref.whole cc0_stg5_0 : Memref sig .tc .vmem S1024x1024 .f32).view.loc (c : Thread nD τ) ↦{fullShare}
        (Memref.whole cc0_stg5_0 : Memref sig .tc .vmem S1024x1024 .f32).view.writes (Elt F) z
          (⟨Rect.unit (s := S1024x1024) ![0, 0] S1024x1024.size inb, w⟩ :: L)) : sProp 𝕄)
      ⊢ ((Memref.whole cc0_stg5_0 : Memref sig .tc .vmem S1024x1024 .f32).view.loc (c : Thread nD τ) ↦{fullShare} w) := by
  have e := stored_of w L inb (Memref.whole cc0_stg5_0 : Memref sig .tc .vmem S1024x1024 .f32).view z
  have e2 := e.symm.trans (View.read_whole (Val := Elt F) cc0_stg5_0 _)
  rw [← e2]

end Whole

variable (𝒱 : Variants) (c : Dev nD)
set_option maxHeartbeats 4000000 in
theorem heads_run (x wq wo z : Vec F S1024x1024 .f32) (k v : Vec F S1024x8x128 .f32)
  (h0 : (Memref.whole cc0_stg0_0 : Memref sig .tc .vmem S1024x1024 .f32).IsWhole) (h1 : (Memref.whole cc0_stg1_0 : Memref sig .tc .vmem S1024x1024 .f32).IsWhole) (h2 : (Memref.whole cc0_stg2_0 : Memref sig .tc .vmem S1024x8x128 .f32).IsWhole) (h3 : (Memref.whole cc0_stg3_0 : Memref sig .tc .vmem S1024x8x128 .f32).IsWhole) (h4 : (Memref.whole cc0_stg4_0 : Memref sig .tc .vmem S1024x1024 .f32).IsWhole) (h5 : (Memref.whole cc0_stg5_0 : Memref sig .tc .vmem S1024x1024 .f32).IsWhole) (h6 : (Memref.whole cc0_scratch0 : Memref sig .tc .vmem S31x32x1024 .f32).IsWhole)
        (v14 : FVec F S1024x1024 .f32) (v20 : IVec S1024x1024 1) (v23 v25 v27 : FVec F S1024x128 .f32) (cst : FVec F S1024x1024 .f32)
    (kk : Prog (TpuEff nD τ sig (Elt F) Λ₀ .tc) PUnit) (Q : PUnit → sProp (MT nD τ sig Unit (Elt F) ℕ UU ℕ)) :
    iprop(((Memref.whole cc0_stg0_0 : Memref sig .tc .vmem _ .f32).view.loc (c : Thread nD τ) ↦{fullShare} x) ∗ ((Memref.whole cc0_stg1_0 : Memref sig .tc .vmem _ .f32).view.loc (c : Thread nD τ) ↦{fullShare} wq) ∗ ((Memref.whole cc0_stg2_0 : Memref sig .tc .vmem _ .f32).view.loc (c : Thread nD τ) ↦{fullShare} k) ∗ ((Memref.whole cc0_stg3_0 : Memref sig .tc .vmem _ .f32).view.loc (c : Thread nD τ) ↦{fullShare} v) ∗ ((Memref.whole cc0_stg4_0 : Memref sig .tc .vmem _ .f32).view.loc (c : Thread nD τ) ↦{fullShare} wo) ∗ ((Memref.whole cc0_stg5_0 : Memref sig .tc .vmem _ .f32).view.loc (c : Thread nD τ) ↦{fullShare} z))
    ⊢ iprop((iprop(((Memref.whole cc0_stg0_0 : Memref sig .tc .vmem _ .f32).view.loc (c : Thread nD τ) ↦{fullShare} x) ∗ ((Memref.whole cc0_stg1_0 : Memref sig .tc .vmem _ .f32).view.loc (c : Thread nD τ) ↦{fullShare} wq) ∗ ((Memref.whole cc0_stg2_0 : Memref sig .tc .vmem _ .f32).view.loc (c : Thread nD τ) ↦{fullShare} k) ∗ ((Memref.whole cc0_stg3_0 : Memref sig .tc .vmem _ .f32).view.loc (c : Thread nD τ) ↦{fullShare} v) ∗ ((Memref.whole cc0_stg4_0 : Memref sig .tc .vmem _ .f32).view.loc (c : Thread nD τ) ↦{fullShare} wo) ∗ ((Memref.whole cc0_stg5_0 : Memref sig .tc .vmem _ .f32).view.loc (c : Thread nD τ) ↦{fullShare} (acc7 wq k v wo v14 v20 v23 v25 v27 cst)))
          -∗ wp frame (wpE (defs₀ (F := F)) 𝒱 (c : Thread nD τ) none) Set.univ kk Q)
        -∗ wp frame (wpE (defs₀ (F := F)) 𝒱 (c : Thread nD τ) none) Set.univ (do
        let ⟨v53, v63⟩ : Σ' (v53 : FVec F S1024x128 .f32), FVec F S1024x1024 .f32 ← k0_part3 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 cc0_scratch3 cc0_scratch4 v14 v20 v23 v25 v27 cst
        let v97 : FVec F S1024x128 .f32 ← k0_part4 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 cc0_scratch3 cc0_scratch4 v14 v20 v53 v63
        let ⟨v129, v130⟩ : Σ' (v129 : FVec F S1024x1024 .f32), Vec F S1024x1024 .f32 ← k0_part5 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 cc0_scratch3 cc0_scratch4 v14 v20 v97
        k0_part6 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 cc0_scratch3 cc0_scratch4 v14 v20 v129 v130
        let ⟨v194, v195⟩ : Σ' (v194 : FVec F S1024x128 .f32), Vec F S1024x1x128 .f32 ← k0_part7 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 cc0_scratch3 cc0_scratch4 v14 v20
        let ⟨v227, v228⟩ : Σ' (v227 : FVec F S1024x128 .f32), FVec F S1024x1024 .f32 ← k0_part8 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 cc0_scratch3 cc0_scratch4 v14 v20 v194 v195
        let v243 : Vec F S128x1024 .f32 ← Prog.lift (.load (Memref.whole cc0_stg4_0) (Rect.unit (s := S1024x1024) ![896, 0] S128x1024.size inb_S1024x1024_S128x1024_896_0).toLoadRect (View.loadsAt_vmem h_S128x1024))
        let v246 : Vec F S1024x1024 .f32 ← Prog.lift (.load (Memref.whole cc0_stg5_0) (Rect.unit (s := S1024x1024) ![0, 0] S1024x1024.size inb_S1024x1024_S1024x1024_0_0).toLoadRect (View.loadsAt_vmem h_S1024x1024))
        let v249 : Vec F S1024x1024 .f32 ← Prog.lift (.load (Memref.whole cc0_stg5_0) (Rect.unit (s := S1024x1024) ![0, 0] S1024x1024.size inb_S1024x1024_S1024x1024_0_0).toLoadRect (View.loadsAt_vmem h_S1024x1024))
        Prog.lift (.store (Memref.whole cc0_stg5_0) (Rect.unit (s := S1024x1024) ![0, 0] S1024x1024.size inb_S1024x1024_S1024x1024_0_0) (k0_pay1 v20 v227 v228 v243 v246) Finset.univ (View.stores_vmem_bits_univ h_S1024x1024 rfl) (.inl rfl))
        kk) Q) := by
  iintro ⟨H0, H1, H2, H3, H4, H5⟩ Hk
  sl_exec
  iapply Hk
  isplitl [H0]; · iexact H0
  isplitl [H1]; · iexact H1
  isplitl [H2]; · iexact H2
  isplitl [H3]; · iexact H3
  isplitl [H4]; · iexact H4
  ihave H5 := (stored _ _ _ c z) $$ H5
  have e0 : heads_run.sl.v72 wo v20 v23 v25 v27 cst = acc0 wo v20 v23 v25 v27 cst := by
    unfold acc0; exact (reread _ _ _).trans (congrArg (k0_pay9 v20 v23 v25 v27 cst) (readAt_headRows wo 0 (off := ![0, 0]) inb_S1024x1024_S128x1024_0_0 rfl))
  have e1 : heads_run.sl.v101 wq wo k v v14 v20 v23 v25 v27 cst = acc1 wq k v wo v14 v20 v23 v25 v27 cst := by
    unfold acc1; exact (reread _ _ _).trans (congr (congr (congr (congrArg k0_pay12 (congrArg k0_pay10 (readAt_headV v 1 (off := ![0, 1, 0]) inb_S1024x8x128_S1024x1x128_0_1_0 rfl))) (congr (congrArg (k0_pay11 v14 v20) (readAt_headCols wq 1 (off := ![0, 128]) inb_S1024x1024_S1024x128_0_128 rfl)) (readAt_headK k 1 (off := ![0, 1, 0]) inb_S1024x8x128_S1024x1x128_0_1_0 rfl))) (readAt_headRows wo 1 (off := ![128, 0]) inb_S1024x1024_S128x1024_128_0 rfl)) e0)
  have e2 : heads_run.sl.v130 wq wo k v v14 v20 v23 v25 v27 cst = acc2 wq k v wo v14 v20 v23 v25 v27 cst := by
    unfold acc2; exact (reread _ _ _).trans (congr (congr (congrArg k0_pay14 (congr (congr (congrArg (k0_pay13 v14 v20) (readAt_headCols wq 2 (off := ![0, 256]) inb_S1024x1024_S1024x128_0_256 rfl)) (readAt_headK k 2 (off := ![0, 2, 0]) inb_S1024x8x128_S1024x1x128_0_2_0 rfl)) (readAt_headV v 2 (off := ![0, 2, 0]) inb_S1024x8x128_S1024x1x128_0_2_0 rfl))) (readAt_headRows wo 2 (off := ![256, 0]) inb_S1024x1024_S128x1024_256_0 rfl)) e1)
  have e3 : heads_run.sl.v159 wq wo k v v14 v20 v23 v25 v27 cst = acc3 wq k v wo v14 v20 v23 v25 v27 cst := by
    unfold acc3; exact (reread _ _ _).trans (congr (congrArg k0_pay16 (congr (congr (congr (congrArg (k0_pay15 v14 v20) (readAt_headCols wq 3 (off := ![0, 384]) inb_S1024x1024_S1024x128_0_384 rfl)) (readAt_headK k 3 (off := ![0, 3, 0]) inb_S1024x8x128_S1024x1x128_0_3_0 rfl)) (readAt_headV v 3 (off := ![0, 3, 0]) inb_S1024x8x128_S1024x1x128_0_3_0 rfl)) (readAt_headRows wo 3 (off := ![384, 0]) inb_S1024x1024_S128x1024_384_0 rfl))) e2)
  have e4 : heads_run.sl.v188 wq wo k v v14 v20 v23 v25 v27 cst = acc4 wq k v wo v14 v20 v23 v25 v27 cst := by
    unfold acc4; exact (reread _ _ _).trans (congr (congr (congr (congr (congrArg (k0_pay17 v14 v20) (readAt_headCols wq 4 (off := ![0, 512]) inb_S1024x1024_S1024x128_0_512 rfl)) (readAt_headK k 4 (off := ![0, 4, 0]) inb_S1024x8x128_S1024x1x128_0_4_0 rfl)) (readAt_headV v 4 (off := ![0, 4, 0]) inb_S1024x8x128_S1024x1x128_0_4_0 rfl)) (readAt_headRows wo 4 (off := ![512, 0]) inb_S1024x1024_S128x1024_512_0 rfl)) e3)
  have e5 : heads_run.sl.v217 wq wo k v v14 v20 v23 v25 v27 cst = acc5 wq k v wo v14 v20 v23 v25 v27 cst := by
    unfold acc5; exact (reread _ _ _).trans (congr (congr (congr (congr (congrArg (k0_pay18 v14 v20) (readAt_headCols wq 5 (off := ![0, 640]) inb_S1024x1024_S1024x128_0_640 rfl)) (readAt_headK k 5 (off := ![0, 5, 0]) inb_S1024x8x128_S1024x1x128_0_5_0 rfl)) (readAt_headV v 5 (off := ![0, 5, 0]) inb_S1024x8x128_S1024x1x128_0_5_0 rfl)) (readAt_headRows wo 5 (off := ![640, 0]) inb_S1024x1024_S128x1024_640_0 rfl)) e4)
  have e6 : heads_run.sl.v246 wq wo k v v14 v20 v23 v25 v27 cst = acc6 wq k v wo v14 v20 v23 v25 v27 cst := by
    unfold acc6; exact (reread _ _ _).trans (congr (congr (congr (congr (congrArg (k0_pay20 v20) (congrArg (k0_pay19 v14) (readAt_headCols wq 6 (off := ![0, 768]) inb_S1024x1024_S1024x128_0_768 rfl))) (readAt_headK k 6 (off := ![0, 6, 0]) inb_S1024x8x128_S1024x1x128_0_6_0 rfl)) (readAt_headV v 6 (off := ![0, 6, 0]) inb_S1024x8x128_S1024x1x128_0_6_0 rfl)) (readAt_headRows wo 6 (off := ![768, 0]) inb_S1024x1024_S128x1024_768_0 rfl)) e5)
  unfold acc7
  rw [← show _ = k0_pay1 v20 (k0_pay21 (headOf v 7)) (k0_pay22 v14 (headCols wq 7) (headOf k 7)) (headRows wo 7) (acc6 wq k v wo v14 v20 v23 v25 v27 cst) from (congr (congr (congr (congrArg (k0_pay1 v20) (congrArg k0_pay21 (readAt_headV v 7 (off := ![0, 7, 0]) inb_S1024x8x128_S1024x1x128_0_7_0 rfl))) (congr (congrArg (k0_pay22 v14) (readAt_headCols wq 7 (off := ![0, 896]) inb_S1024x1024_S1024x128_0_896 rfl)) (readAt_headK k 7 (off := ![0, 7, 0]) inb_S1024x8x128_S1024x1x128_0_7_0 rfl))) (readAt_headRows wo 7 (off := ![896, 0]) inb_S1024x1024_S128x1024_896_0 rfl)) e6)]
  iexact H5

/-- What the kernel forms, head by head, is the sum of the heads' contributions. -/
theorem acc7_eq (x wq : Vec F S1024x1024 .f32) (k v : Vec F S1024x8x128 .f32) (wo : Vec F S1024x1024 .f32) :
    acc7 wq k v wo (k0_pay4 x) k0_pay5 (k0_pay6 x (headCols wq 0)) (k0_pay7 (headOf k 0)) (k0_pay8 (headOf v 0))
      (constant S1024x1024 .f32 0x00000000#32) = localOut x wq k v wo := by
  have e4 : k0_pay4 x = x := shapeCast_self _ _
  have a0 : acc0 wo k0_pay5 (k0_pay6 x (headCols wq 0)) (k0_pay7 (headOf k 0)) (k0_pay8 (headOf v 0)) (constant S1024x1024 .f32 0x00000000#32)
      = headOut x wq k v wo 0 := by
    unfold acc0 headOut k0_pay9 k0_pay6 k0_pay7 k0_pay8 k0_pay15; rw [e4]
  unfold acc7 acc6 acc5 acc4 acc3 acc2 acc1
  rw [a0, e4]
  have h1 (a : Vec F S1024x1024 .f32) : k0_pay12 (k0_pay10 (headOf v 1)) (k0_pay11 x k0_pay5 (headCols wq 1) (headOf k 1)) (headRows wo 1) a
      = addf a (headOut x wq k v wo 1) := by
    unfold k0_pay12 headOut k0_pay15 k0_pay10 k0_pay11; rw [shapeCast_self a]
  have h2 (a : Vec F S1024x1024 .f32) : k0_pay14 (k0_pay13 x k0_pay5 (headCols wq 2) (headOf k 2) (headOf v 2)) (headRows wo 2) a
      = addf a (headOut x wq k v wo 2) := by
    unfold k0_pay14 headOut k0_pay15 k0_pay13; rw [shapeCast_self a]
  have h3 (a : Vec F S1024x1024 .f32) : k0_pay16 (k0_pay15 x k0_pay5 (headCols wq 3) (headOf k 3) (headOf v 3) (headRows wo 3)) a
      = addf a (headOut x wq k v wo 3) := by
    unfold k0_pay16 headOut; rw [shapeCast_self a]
  have h4 (a : Vec F S1024x1024 .f32) : k0_pay17 x k0_pay5 (headCols wq 4) (headOf k 4) (headOf v 4) (headRows wo 4) a
      = addf a (headOut x wq k v wo 4) := by
    unfold k0_pay17 headOut k0_pay15; rw [shapeCast_self a]
  have h5 (a : Vec F S1024x1024 .f32) : k0_pay18 x k0_pay5 (headCols wq 5) (headOf k 5) (headOf v 5) (headRows wo 5) a
      = addf a (headOut x wq k v wo 5) := by
    unfold k0_pay18 headOut k0_pay15; rw [shapeCast_self a]
  have h6 (a : Vec F S1024x1024 .f32) : k0_pay20 k0_pay5 (k0_pay19 x (headCols wq 6)) (headOf k 6) (headOf v 6) (headRows wo 6) a
      = addf a (headOut x wq k v wo 6) := by
    unfold k0_pay20 headOut k0_pay15 k0_pay19; rw [shapeCast_self a]
  have h7 (a : Vec F S1024x1024 .f32) : k0_pay1 k0_pay5 (k0_pay21 (headOf v 7)) (k0_pay22 x (headCols wq 7) (headOf k 7)) (headRows wo 7) a
      = addf a (headOut x wq k v wo 7) := by
    unfold k0_pay1 headOut k0_pay15 k0_pay21 k0_pay22; rw [shapeCast_self a]
  rw [h1, h2, h3, h4, h5, h6, h7]
  rfl

end Cert.KernelIdeal.RingProof
-- ==== Proof.Body.lean ====
/- The kernel's two loops, from the device's own contribution in its output buffer to every device's sum there. -/
module

public import proofs.«01_k».proof.Proof.Scatter
public import proofs.«01_k».proof.Proof.Gather
public import proofs.«01_k».proof.Proof.Pieces
public import proofs.«01_k».proof.Proof.Local

@[expose] public section

noncomputable section

namespace Cert.KernelIdeal.RingProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Between the loops -/

/-- At the start of the scatter: the output buffer in its chunks, all steps to come. -/
theorem scatter_start (P : Parts F) (c : Dev nD) (W : Waits sig Unit) :
    iprop(((c : Thread nD τ).loc cc0_stg5_0 ↦{fullShare} P c) ∗ bigSep Finset.univ (rsTodo (F := F) c)
        ∗ owes (c : Thread nD τ) (oweRS c 0 + oweAG c 0) W)
      ⊢ (rsInv P c 0 : sProp 𝕄) := by
  unfold rsInv
  rw [dn_zero, behind_zero, rem_zero, past_zero]
  iintro ⟨Ho, Ht, HO⟩
  ihave H := ((out_split P c).trans (Entails.of_eq (bigSep_take (beyond_zero c).symm (notMem_beyond_zero c) _))) $$ Ho
  icases H with ⟨Hc, Hb⟩
  isplitl [Hc]; · iexact Hc
  isplitl [Hb]; · iexact Hb
  isplitr; · rw [bigSep_empty]; iempintro
  isplitl [Ht]; · iexact Ht
  isplitr; · rw [bigSep_empty]; iempintro
  iexists W; iexact HO

/-- From the last step of the scatter to the first of the gathering: chunk `c + 1` is finished. -/
theorem scatter_gather (P : Parts F) (c : Dev nD) :
    iprop(rsInv P c 31 ∗ bigSep Finset.univ (agTodo (F := F) c))
      ⊢ (iprop(agInv P c 0 ∗ bigSep Finset.univ (rsDone (F := F) c)) : sProp 𝕄) := by
  unfold rsInv agInv
  rw [show dn c (0 + 31) = up c 1 from dn_up_1_31 c, behind_all, past_last, owned_zero, bigSep_singleton, rem_zero, past_zero]
  iintro ⟨⟨Hp, -, Hb, -, Hd, HO⟩, Ht⟩
  isplitr [Hd]
  · isplitl [Hp]
    · rw [show fin P (up c 1) = acc P 31 c from by unfold fin; rw [dn_up]]; iexact Hp
    isplitl [Hb]
    · iexact Hb
    isplitl [Ht]; · iexact Ht
    isplitr; · rw [bigSep_empty]; iempintro
    iexact HO
  · iexact Hd

/-- After the gathering: the whole output buffer at the sum, nothing owed. -/
theorem gather_end (P : Parts F) (c : Dev nD) :
    (agInv P c 31 : sProp 𝕄) ⊢ iprop(((c : Thread nD τ).loc cc0_stg5_0 ↦{fullShare} total P) ∗ bigSep Finset.univ (agDone (F := F) c)
      ∗ ∃ W : Waits sig Unit, owes (c : Thread nD τ) (0 : CellTallies nD τ sig Unit) W) := by
  unfold agInv
  rw [owned_last, past_last, oweRS_last, oweAG_last, add_zero]
  iintro ⟨Hp, -, -, Hd, HO⟩
  isplitl [Hp]; · iapply (out_join P c); iexact Hp
  isplitl [Hd]; · iexact Hd
  iexact HO

/-! ## The two loops -/

/-- A run from what is known for good and something else keeps what is known. -/
theorem keep {K A B : sProp (MT nD τ sig Unit (Elt F) ℕ UU ℕ)} [Persistent K] {𝒱 : Variants} {c : Dev nD}
    {p : Prog (TpuEff nD τ sig (Elt F) Λ₀ .tc) PUnit}
    (h : iprop(K ∗ A) ⊢ wp frame (wpE (defs₀ (F := F)) 𝒱 (c : Thread nD τ) none) Set.univ p (fun _ => B)) :
    iprop(K ∗ A) ⊢ wp frame (wpE (defs₀ (F := F)) 𝒱 (c : Thread nD τ) none) Set.univ p (fun _ => iprop(K ∗ B)) := by
  iintro ⟨#Hk, Ha⟩
  iapply (wp_frame_l frame (wpE (defs₀ (F := F)) 𝒱 (c : Thread nD τ) none) Set.univ) $$ [Ha]
  isplitr; · iexact Hk
  iapply h
  isplitr; · iexact Hk
  iexact Ha

section Loops

variable (𝒱 : Variants) (P : Parts F) (κ : GSem nD τ sig → ℕ) (c : Dev nD)
  (a0 a1 : Memref sig .tc .vmem S1024x1024 .f32) (h0 : a0.IsWhole) (h1 : a1.IsWhole)
  (a2 a3 : Memref sig .tc .vmem S1024x8x128 .f32) (h2 : a2.IsWhole) (h3 : a3.IsWhole)
  (a4 : Memref sig .tc .vmem S1024x1024 .f32) (h4 : a4.IsWhole)
  (h5 : (Memref.whole cc0_stg5_0 : Memref sig .tc .vmem S1024x1024 .f32).IsWhole)
  (h6 : (Memref.whole cc0_scratch0 : Memref sig .tc .vmem S31x32x1024 .f32).IsWhole)

theorem loops_run (v2 v4 : BitVec 32) (kk : Prog (TpuEff nD τ sig (Elt F) Λ₀ .tc) PUnit)
    (Q : PUnit → sProp (MT nD τ sig Unit (Elt F) ℕ UU ℕ)) :
    iprop(knows P κ c ∗ rsInv P c 0 ∗ bigSep Finset.univ (agTodo (F := F) c))
      ⊢ iprop((iprop(((c : Thread nD τ).loc cc0_stg5_0 ↦{fullShare} total P) ∗ bigSep Finset.univ (rsDone (F := F) c)
            ∗ bigSep Finset.univ (agDone (F := F) c) ∗ ∃ W : Waits sig Unit, owes (c : Thread nD τ) (0 : CellTallies nD τ sig Unit) W)
          -∗ wp frame (wpE (defs₀ (F := F)) 𝒱 (c : Thread nD τ) none) Set.univ kk Q)
        -∗ wp frame (wpE (defs₀ (F := F)) 𝒱 (c : Thread nD τ) none) Set.univ (do
          Scf.Loop.for k0_t1_loop k0_t1_ok ⟨⟩ (k0_t1_body (F := F) a0 h0 a1 h1 a2 h2 a3 h3 a4 h4 (Memref.whole cc0_stg5_0) h5
            (Memref.whole cc0_scratch0) h6 cc0_scratch1 cc0_scratch2 cc0_scratch3 cc0_scratch4 c v2 v4)
          Scf.Loop.for k0_t2_loop k0_t2_ok ⟨⟩ (k0_t2_body (F := F) a0 h0 a1 h1 a2 h2 a3 h3 a4 h4 (Memref.whole cc0_stg5_0) h5
            (Memref.whole cc0_scratch0) h6 cc0_scratch1 cc0_scratch2 cc0_scratch3 cc0_scratch4 c)
          kk) Q) := by
  iintro ⟨#Hk, Hs, Ht⟩ Hc
  have step1 : ∀ (t : Fin (Scf.trips k0_t1_loop.lb k0_t1_loop.ub k0_t1_loop.st)) (acc : PUnit),
      iprop(knows P κ c ∗ rsInv P c t.val)
        ⊢ wp frame (wpE (defs₀ (F := F)) 𝒱 (c : Thread nD τ) none) Set.univ
          (k0_t1_body (F := F) a0 h0 a1 h1 a2 h2 a3 h3 a4 h4 (Memref.whole cc0_stg5_0) h5
            (Memref.whole cc0_scratch0) h6 cc0_scratch1 cc0_scratch2 cc0_scratch3 cc0_scratch4 c v2 v4 t acc)
          (fun _ => iprop(knows P κ c ∗ rsInv P c (t.val + 1))) := fun t _ =>
    keep (scatter_step 𝒱 P κ c a0 a1 h0 h1 a2 a3 h2 h3 a4 h4 h5 h6 v2 v4 t)
  have step2 : ∀ (t : Fin (Scf.trips k0_t2_loop.lb k0_t2_loop.ub k0_t2_loop.st)) (acc : PUnit),
      iprop(knows P κ c ∗ agInv P c t.val)
        ⊢ wp frame (wpE (defs₀ (F := F)) 𝒱 (c : Thread nD τ) none) Set.univ
          (k0_t2_body (F := F) a0 h0 a1 h1 a2 h2 a3 h3 a4 h4 (Memref.whole cc0_stg5_0) h5
            (Memref.whole cc0_scratch0) h6 cc0_scratch1 cc0_scratch2 cc0_scratch3 cc0_scratch4 c t acc)
          (fun _ => iprop(knows P κ c ∗ agInv P c (t.val + 1))) := fun t _ =>
    keep (gather_step 𝒱 P κ c a0 a1 h0 h1 a2 a3 h2 h3 a4 h4 h5 h6 t)
  iapply (Scf.wp_for_bind frame (wpE (defs₀ (F := F)) 𝒱 (c : Thread nD τ) none) Set.univ k0_t1_loop.lb k0_t1_loop.ub k0_t1_loop.st k0_t1_ok
    (⟨⟩ : PUnit) _ (fun n _ => iprop(knows P κ c ∗ rsInv P c n)) step1) $$ [Hs]
  · isplitr; · iexact Hk
    iexact Hs
  iintro %_ ⟨-, Hs⟩
  ihave Hs := (Entails.of_eq (congrArg (rsInv P c) trips1)) $$ Hs
  ihave ⟨Hs, Hd⟩ := (scatter_gather P c) $$ [Hs Ht]
  · isplitl [Hs]; · iexact Hs
    iexact Ht
  iapply (Scf.wp_for_bind frame (wpE (defs₀ (F := F)) 𝒱 (c : Thread nD τ) none) Set.univ k0_t2_loop.lb k0_t2_loop.ub k0_t2_loop.st k0_t2_ok
    (⟨⟩ : PUnit) _ (fun n _ => iprop(knows P κ c ∗ agInv P c n)) step2) $$ [Hs]
  · isplitr; · iexact Hk
    iexact Hs
  iintro %_ ⟨-, Hs⟩
  ihave Hs := (Entails.of_eq (congrArg (agInv P c) trips2)) $$ Hs
  ihave ⟨Ho, Ha, Hw⟩ := (gather_end P c) $$ Hs
  iapply Hc
  isplitl [Ho]; · iexact Ho
  isplitl [Hd]; · iexact Hd
  isplitl [Ha]; · iexact Ha
  iexact Hw

end Loops

end Cert.KernelIdeal.RingProof
-- ==== Proof.Start.lean ====
/- The start of the kernel's body: the two barrier units sent, the two awaited, and the first head's operands read. -/
module

public import proofs.«01_k».proof.Proof.Body

@[expose] public section

noncomputable section

namespace Cert.KernelIdeal.RingProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The barrier -/

/-- What device `c` knows of the barriers: their schedules, that they are in their first round, and that its own receive semaphores
    are in theirs. -/
def barKnows (P : Parts F) (κ : GSem nD τ sig → ℕ) (c : Dev nD) : sProp 𝕄 :=
  iprop(cellInv ER (Rd P) (κ (barCell c)) (barCell c) ∗ cellInv ER (Rd P) (κ (barCell (up c 1))) (barCell (up c 1))
    ∗ cellInv ER (Rd P) (κ (barCell (dn c 1))) (barCell (dn c 1)) ∗ reached ER (barCell (up c 1)) 0 ∗ reached ER (barCell (dn c 1)) 0
    ∗ levAts L lv ∗ openA (F := F) 1 c ∗ openA (F := F) 3 c)

instance barKnows_persistent (P : Parts F) (κ) (c : Dev nD) : BI.Persistent (barKnows P κ c) := by unfold barKnows; infer_instance

/-- What device `c` brings to the barrier: its position, the two units' duties, the credit of the two units awaited, its slots, and
    all it owes. -/
def barHas (c : Dev nD) (W : Waits sig Unit) : sProp 𝕄 :=
  iprop(atPos ER (barCell c) 0 ∅ 0 ∗ dutyTok ER (barCell (up c 1)) 0 true ∗ dutyTok ER (barCell (dn c 1)) 0 false
    ∗ cred (tallyAt (barCell c) () 2) ∗ (bigSep Finset.univ fun i : Fin 31 => slotAny (F := F) c i) ∗ owes (c : Thread nD τ) (O₀ c) W)

/-- What device `c` has after the barrier: its counter, the next device's slots and receive semaphores, and the receipts it owes. -/
def barGot (c : Dev nD) : sProp 𝕄 :=
  iprop(semVal (barCell c) 0 ∗ (bigSep Finset.univ fun i : Fin 31 => slotAny (F := F) (up c 1) i)
    ∗ openA (F := F) 1 (up c 1) ∗ openA (F := F) 3 (up c 1) ∗ ∃ W : Waits sig Unit, owes (c : Thread nD τ) (oweRS c 0 + oweAG c 0) W)

/-- The whole of the activations, read. -/
theorem readAt_all (w : Vec F S1024x1024 .f32) :
    View.readAt (Elt F) (Memref.whole cc0_stg0_0 : Memref sig .tc .vmem S1024x1024 .f32).view
      (Rect.unit (s := S1024x1024) ![0, 0] S1024x1024.size inb_S1024x1024_S1024x1024_0_0).toLoadRect w = w := by
  funext i
  show w ((Rect.unit (s := S1024x1024) ![0, 0] S1024x1024.size inb_S1024x1024_S1024x1024_0_0).emb i) = _
  congr 1
  funext a
  refine Fin.ext ?_
  match a with
  | 0 => show 0 + 1 * (i 0).val = (i 0).val; omega
  | 1 => show 0 + 1 * (i 1).val = (i 1).val; omega

set_option maxHeartbeats 800000 in
/-- From the barrier's means and the operands, the first part of the body comes to its end with what the barrier brings. -/
theorem start_run (𝒱 : Variants) (P : Parts F) (κ : GSem nD τ sig → ℕ) (c : Dev nD) (W : Waits sig Unit) (x wq : Vec F S1024x1024 .f32) (k v : Vec F S1024x8x128 .f32)
  (h0 : (Memref.whole cc0_stg0_0 : Memref sig .tc .vmem S1024x1024 .f32).IsWhole) (h1 : (Memref.whole cc0_stg1_0 : Memref sig .tc .vmem S1024x1024 .f32).IsWhole) (h2 : (Memref.whole cc0_stg2_0 : Memref sig .tc .vmem S1024x8x128 .f32).IsWhole) (h3 : (Memref.whole cc0_stg3_0 : Memref sig .tc .vmem S1024x8x128 .f32).IsWhole) (h4 : (Memref.whole cc0_stg4_0 : Memref sig .tc .vmem S1024x1024 .f32).IsWhole) (h5 : (Memref.whole cc0_stg5_0 : Memref sig .tc .vmem S1024x1024 .f32).IsWhole) (h6 : (Memref.whole cc0_scratch0 : Memref sig .tc .vmem S31x32x1024 .f32).IsWhole)
    (kk : (Σ' (d0 : Dev nD) (v2 : BitVec 32) (v4 : BitVec 32) (v7 : BitVec 32) (v14 : FVec F S1024x1024 .f32) (v20 : IVec S1024x1024 1) (v23 : FVec F S1024x128 .f32) (v25 : FVec F S1024x128 .f32) (v27 : FVec F S1024x128 .f32), FVec F S1024x1024 .f32) → Prog (TpuEff nD τ sig (Elt F) Λ₀ .tc) PUnit) (Q : PUnit → sProp (MT nD τ sig Unit (Elt F) ℕ UU ℕ)) :
    iprop(barKnows P κ c ∗ barHas c W ∗ ((Memref.whole cc0_stg0_0 : Memref sig .tc .vmem _ .f32).view.loc (c : Thread nD τ) ↦{fullShare} x) ∗ ((Memref.whole cc0_stg1_0 : Memref sig .tc .vmem _ .f32).view.loc (c : Thread nD τ) ↦{fullShare} wq) ∗ ((Memref.whole cc0_stg2_0 : Memref sig .tc .vmem _ .f32).view.loc (c : Thread nD τ) ↦{fullShare} k) ∗ ((Memref.whole cc0_stg3_0 : Memref sig .tc .vmem _ .f32).view.loc (c : Thread nD τ) ↦{fullShare} v))
      ⊢ iprop((∀ v2 : BitVec 32, ∀ v4 : BitVec 32, ∀ v7 : BitVec 32, iprop(barGot c ∗ ((Memref.whole cc0_stg0_0 : Memref sig .tc .vmem _ .f32).view.loc (c : Thread nD τ) ↦{fullShare} x) ∗ ((Memref.whole cc0_stg1_0 : Memref sig .tc .vmem _ .f32).view.loc (c : Thread nD τ) ↦{fullShare} wq) ∗ ((Memref.whole cc0_stg2_0 : Memref sig .tc .vmem _ .f32).view.loc (c : Thread nD τ) ↦{fullShare} k) ∗ ((Memref.whole cc0_stg3_0 : Memref sig .tc .vmem _ .f32).view.loc (c : Thread nD τ) ↦{fullShare} v))
          -∗ wp frame (wpE (defs₀ (F := F)) 𝒱 (c : Thread nD τ) none) Set.univ
            (kk ⟨c, v2, v4, v7, k0_pay4 x, k0_pay5, k0_pay6 x (headCols wq 0), k0_pay7 (headOf k 0), k0_pay8 (headOf v 0), constant S1024x1024 .f32 0x00000000#32⟩) Q)
        -∗ wp frame (wpE (defs₀ (F := F)) 𝒱 (c : Thread nD τ) none) Set.univ (k0_part2 (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 cc0_scratch3 cc0_scratch4 >>= kk) Q) := by
  simp only [k0_part2_eq_skeleton]; unfold k0_part2_skel
  simp only [semSignalWord, semWaitWord, Prog.lift, Prog.bind_op, Prog.bind_ret, Prog.pure_eq_ret, wp_deviceId]
  unfold barKnows barHas barGot O₀ openA
  iintro ⟨⟨#HI, #HIu, #HId, #Hru, #Hrd, #Hlev, #Ho1, #Ho3⟩, ⟨Hat, Htu, Htd, Hcr, Hsl, HO⟩, H0, H1, H2, H3⟩ Hk
  simp only [dev1_eq c, dev2_eq c]
  iapply (Rounds.wp_signal 𝒱 ER (Rd P) (c : Thread nD τ) none (dst := (dn c 1 : Thread nD τ)) (κ := κ (barCell (dn c 1))) (r := 0)
      (d := false) (by rw [duties_bar]; exact Finset.mem_univ _) ((amount_bar P (dn c 1) false).trans (by decide)) ()
      (oweRS c 0 + oweAG c 0 + tallyAt (barCell (up c 1)) () 1) rfl) $$ [HO Htd Hsl]
  · isplitr; · iexact HId
    isplitl [HO]; · iexact HO
    isplitl [Htd]; · iexact Htd
    isplitl [Hsl]
    · rw [pay_bar_right]; unfold barPay; rw [up_dn]
      isplitl [Hsl]; · iexact Hsl
      isplitr; · iexact Ho1
      iexact Ho3
    · iexact Hrd
  iintro HO
  iapply (Rounds.wp_signal 𝒱 ER (Rd P) (c : Thread nD τ) none (dst := (up c 1 : Thread nD τ)) (κ := κ (barCell (up c 1))) (r := 0)
      (d := true) (by rw [duties_bar]; exact Finset.mem_univ _) ((amount_bar P (up c 1) true).trans (by decide)) ()
      (oweRS c 0 + oweAG c 0) rfl) $$ [HO Htu]
  · isplitr; · iexact HIu
    isplitl [HO]; · iexact HO
    isplitl [Htu]; · iexact Htu
    isplitr; · rw [pay_bar_left]; iempintro
    iexact Hru
  iintro HO
  iapply (Rounds.wp_wait_rest_token 𝒱 ER (Rd P) (c : Thread nD τ) none (sm := .reg barrier0) (κ := κ (barCell c))
      (wpE_semWait_eq 𝒱 (c : Thread nD τ) none Set.univ) (Set.mem_univ _) () (O := oweRS c 0 + oweAG c 0) (W := W) (R := 0) (m := 0) (T := ∅)
      ((expect_bar P c).symm)) $$ [Hcr HO Hat]
  · isplitr; · iexact HI
    isplitl [Hcr]; · iexact Hcr
    isplitl [HO]; · iexact HO
    isplitr; · iapply (mayWait_owe c (.reg barrier0) 1 0 0 (Nat.le_refl 1) (.inl (by decide)) (by decide)); iexact Hlev
    iexact Hat
  iintro ⟨HO, Hat, -, Hpay⟩
  ihave Hp := (Entails.of_eq (rest_bar P c)) $$ Hpay
  unfold barPay
  icases Hp with ⟨⟨Hsl, #Hq1, #Hq3⟩, -⟩
  imod (close P (κ (barCell c)) (barCell c)) $$ [Hat] with Hb
  · isplitr; · iexact HI
    iexact Hat
  ihave H0 := (Entails.of_eq (rfl : (_ : sProp 𝕄) = ((Memref.whole cc0_stg0_0 : Memref sig .tc .vmem _ .f32).view.loc (c : Thread nD τ) ↦{fullShare} x))) $$ [H0]
  · iexact H0
  ihave H1 := (Entails.of_eq (rfl : (_ : sProp 𝕄) = ((Memref.whole cc0_stg1_0 : Memref sig .tc .vmem _ .f32).view.loc (c : Thread nD τ) ↦{fullShare} wq))) $$ [H1]
  · iexact H1
  ihave H2 := (Entails.of_eq (rfl : (_ : sProp 𝕄) = ((Memref.whole cc0_stg2_0 : Memref sig .tc .vmem _ .f32).view.loc (c : Thread nD τ) ↦{fullShare} k))) $$ [H2]
  · iexact H2
  ihave H3 := (Entails.of_eq (rfl : (_ : sProp 𝕄) = ((Memref.whole cc0_stg3_0 : Memref sig .tc .vmem _ .f32).view.loc (c : Thread nD τ) ↦{fullShare} v))) $$ [H3]
  · iexact H3
  sl_exec
  rw [readAt_all x, readAt_headCols wq 0 (off := ![0, 0]) inb_S1024x1024_S1024x128_0_0 rfl,
    readAt_headK k 0 (off := ![0, 0, 0]) inb_S1024x8x128_S1024x1x128_0_0_0 rfl,
    readAt_headV v 0 (off := ![0, 0, 0]) inb_S1024x8x128_S1024x1x128_0_0_0 rfl]
  iapply Hk
  isplitr [H0 H1 H2 H3]
  · isplitl [Hb]; · iexact Hb
    isplitl [Hsl]; · iexact Hsl
    isplitr; · iexact Hq1
    isplitr; · iexact Hq3
    iexists _; iexact HO
  isplitl [H0]; · iexact H0
  isplitl [H1]; · iexact H1
  isplitl [H2]; · iexact H2
  iexact H3

end Cert.KernelIdeal.RingProof
-- ==== Proof.Whole.lean ====
/- The kernel's whole body on one device: the barrier, the device's own heads, the scatter and the gathering. -/
module

public import proofs.«01_k».proof.Proof.Start

@[expose] public section

noncomputable section

namespace Cert.KernelIdeal.RingProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The body -/

/-- What step `i` of the scatter needs on device `c`, but for the slot the barrier brings. -/
def rsHas (c : Dev nD) (i : Fin 31) : sProp 𝕄 :=
  iprop(dutyTok ER (rsS c i) 0 false ∗ dutyTok ER (rsR (up c 1) i) 0 false ∗ atPos ER (rsS c i) 0 ∅ 0 ∗ atPos ER (rsR c i) 0 ∅ 0
    ∗ cred (tallyAt (rsR c i) () N))

theorem rsTodo_intro (c : Dev nD) :
    iprop(bigSep Finset.univ (rsHas (F := F) c) ∗ bigSep Finset.univ fun i : Fin 31 => slotAny (F := F) (up c 1) i)
      ⊢ (bigSep Finset.univ (rsTodo (F := F) c) : sProp 𝕄) := by
  have h (i : Fin 31) : iprop(rsHas (F := F) c i ∗ slotAny (F := F) (up c 1) i) ⊢ (rsTodo (F := F) c i : sProp 𝕄) := by
    unfold rsHas rsTodo
    iintro ⟨⟨H1, H2, H3, H4, H5⟩, H6⟩
    isplitl [H1]; · iexact H1
    isplitl [H2]; · iexact H2
    isplitl [H3]; · iexact H3
    isplitl [H4]; · iexact H4
    isplitl [H5]; · iexact H5
    iexact H6
  rw [← bigSep_sep']
  exact bigSep_mono fun i _ => h i

/-- What the body finds beside the operands' buffers. -/
def bodyHas (P : Parts F) (κ : GSem nD τ sig → ℕ) (c : Dev nD) (W : Waits sig Unit) : sProp 𝕄 :=
  iprop((barKnows P κ c ∗ cellsA P κ ∗ openA (F := F) 0 c ∗ openA (F := F) 2 c) ∗ barHas c W
    ∗ bigSep Finset.univ (rsHas (F := F) c) ∗ bigSep Finset.univ (agTodo (F := F) c))
/-- What it leaves beside them. -/
def bodyGot (c : Dev nD) : sProp 𝕄 :=
  iprop(semVal (barCell c) 0 ∗ bigSep Finset.univ (rsDone (F := F) c) ∗ bigSep Finset.univ (agDone (F := F) c)
    ∗ ∃ W : Waits sig Unit, owes (c : Thread nD τ) (0 : CellTallies nD τ sig Unit) W)

set_option maxHeartbeats 1000000 in
theorem body_run (𝒱 : Variants) (P : Parts F) (κ : GSem nD τ sig → ℕ) (c : Dev nD) (W : Waits sig Unit) (x wq wo z : Vec F S1024x1024 .f32) (k v : Vec F S1024x8x128 .f32)
    (hP : localOut x wq k v wo = P c)
  (h0 : (Memref.whole cc0_stg0_0 : Memref sig .tc .vmem S1024x1024 .f32).IsWhole) (h1 : (Memref.whole cc0_stg1_0 : Memref sig .tc .vmem S1024x1024 .f32).IsWhole) (h2 : (Memref.whole cc0_stg2_0 : Memref sig .tc .vmem S1024x8x128 .f32).IsWhole) (h3 : (Memref.whole cc0_stg3_0 : Memref sig .tc .vmem S1024x8x128 .f32).IsWhole) (h4 : (Memref.whole cc0_stg4_0 : Memref sig .tc .vmem S1024x1024 .f32).IsWhole) (h5 : (Memref.whole cc0_stg5_0 : Memref sig .tc .vmem S1024x1024 .f32).IsWhole) (h6 : (Memref.whole cc0_scratch0 : Memref sig .tc .vmem S31x32x1024 .f32).IsWhole)
    (Q : PUnit → sProp (MT nD τ sig Unit (Elt F) ℕ UU ℕ)) :
    iprop(bodyHas P κ c W ∗ ((Memref.whole cc0_stg0_0 : Memref sig .tc .vmem _ .f32).view.loc (c : Thread nD τ) ↦{fullShare} x) ∗ ((Memref.whole cc0_stg1_0 : Memref sig .tc .vmem _ .f32).view.loc (c : Thread nD τ) ↦{fullShare} wq) ∗ ((Memref.whole cc0_stg2_0 : Memref sig .tc .vmem _ .f32).view.loc (c : Thread nD τ) ↦{fullShare} k) ∗ ((Memref.whole cc0_stg3_0 : Memref sig .tc .vmem _ .f32).view.loc (c : Thread nD τ) ↦{fullShare} v) ∗ ((Memref.whole cc0_stg4_0 : Memref sig .tc .vmem _ .f32).view.loc (c : Thread nD τ) ↦{fullShare} wo) ∗ ((Memref.whole cc0_stg5_0 : Memref sig .tc .vmem _ .f32).view.loc (c : Thread nD τ) ↦{fullShare} z))
      ⊢ iprop((iprop(bodyGot c ∗ ((Memref.whole cc0_stg0_0 : Memref sig .tc .vmem _ .f32).view.loc (c : Thread nD τ) ↦{fullShare} x) ∗ ((Memref.whole cc0_stg1_0 : Memref sig .tc .vmem _ .f32).view.loc (c : Thread nD τ) ↦{fullShare} wq) ∗ ((Memref.whole cc0_stg2_0 : Memref sig .tc .vmem _ .f32).view.loc (c : Thread nD τ) ↦{fullShare} k) ∗ ((Memref.whole cc0_stg3_0 : Memref sig .tc .vmem _ .f32).view.loc (c : Thread nD τ) ↦{fullShare} v) ∗ ((Memref.whole cc0_stg4_0 : Memref sig .tc .vmem _ .f32).view.loc (c : Thread nD τ) ↦{fullShare} wo) ∗ ((Memref.whole cc0_stg5_0 : Memref sig .tc .vmem _ .f32).view.loc (c : Thread nD τ) ↦{fullShare} total P)) -∗ Q ⟨⟩)
        -∗ wp frame (wpE (defs₀ (F := F)) 𝒱 (c : Thread nD τ) none) Set.univ (cc0_body (Memref.whole cc0_stg0_0) h0 (Memref.whole cc0_stg1_0) h1 (Memref.whole cc0_stg2_0) h2 (Memref.whole cc0_stg3_0) h3 (Memref.whole cc0_stg4_0) h4 (Memref.whole cc0_stg5_0) h5 (Memref.whole cc0_scratch0) h6 cc0_scratch1 cc0_scratch2 cc0_scratch3 cc0_scratch4) Q) := by
  rw [cc0_body_eq_skeleton]; unfold cc0_body_skel bodyHas bodyGot
  iintro ⟨⟨⟨#Hbk, #Hce, #Ho0, #Ho2⟩, Hbar, Hrs, Hag⟩, H0, H1, H2, H3, H4, H5⟩ Hk
  iapply (start_run 𝒱 P κ c W x wq k v h0 h1 h2 h3 h4 h5 h6) $$ [Hbar H0 H1 H2 H3]
  · isplitr; · iexact Hbk
    isplitl [Hbar]; · iexact Hbar
    isplitl [H0]; · iexact H0
    isplitl [H1]; · iexact H1
    isplitl [H2]; · iexact H2
    iexact H3
  iintro %v2 %v4 %v7 ⟨Hbg, H0, H1, H2, H3⟩
  unfold barGot
  icases Hbg with ⟨Hb, Hsl, #Ho1, #Ho3, ⟨%W', HO⟩⟩
  iapply (heads_run 𝒱 c x wq wo z k v h0 h1 h2 h3 h4 h5 h6 (k0_pay4 x) k0_pay5 (k0_pay6 x (headCols wq 0)) (k0_pay7 (headOf k 0)) (k0_pay8 (headOf v 0))
    (constant S1024x1024 .f32 0x00000000#32)) $$ [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  rw [acc7_eq, hP]
  ihave Ht := (rsTodo_intro (F := F) c) $$ [Hrs Hsl]
  · isplitl [Hrs]; · iexact Hrs
    iexact Hsl
  ihave Hs := (scatter_start P c W') $$ [H5 Ht HO]
  · isplitl [H5]; · iexact H5
    isplitl [Ht]; · iexact Ht
    iexact HO
  iapply (loops_run 𝒱 P κ c _ _ h0 h1 _ _ h2 h3 _ h4 h5 h6 v2 v4) $$ [Hs Hag]
  · isplitr
    · unfold knows
      isplitr; · iexact Hce
      isplitr; · unfold barKnows; icases Hbk with ⟨-, -, -, -, -, #Hlev, -, -⟩; iexact Hlev
      isplitr; · iexact Ho0
      isplitr; · iexact Ho2
      isplitr; · iexact Ho1
      iexact Ho3
    isplitl [Hs]; · iexact Hs
    iexact Hag
  iintro ⟨H5, Hd, Ha, HO⟩
  iapply (le_wp_ret _ _ _ PUnit.unit _)
  iapply Hk
  isplitr [H0 H1 H2 H3 H4 H5]
  · isplitl [Hb]; · iexact Hb
    isplitl [Hd]; · iexact Hd
    isplitl [Ha]; · iexact Ha
    iexact HO
  isplitl [H0]; · iexact H0
  isplitl [H1]; · iexact H1
  isplitl [H2]; · iexact H2
  isplitl [H3]; · iexact H3
  isplitl [H4]; · iexact H4
  iexact H5

end Cert.KernelIdeal.RingProof
-- ==== Proof.Region.lean ====
/- The kernel as a region of the program: what its windows hold, what it is entered with, and what it leaves. -/
module

public import proofs.«01_k».proof.Proof.Whole
public import proofs.«01_k».proof.Proof.Gen.KernelIdeal.Regions
public import proofs.«01_k».proof.Proof.Gen.KernelIdeal.Points
public import Idealize.ShloMosaic.Lib.Pipeline.RegionTalk
public import Idealize.ShloMosaic.Lib.Rounds.Family

@[expose] public section

noncomputable section

namespace Cert.KernelIdeal.RingProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The values -/

/-- What each device's own heads come to, on the operands the host operations prepare. -/
def parts : Parts F := fun c => localOut (V1 m c main_v15) (V1 m c main_v9) (V1 m c main_v16) (V1 m c main_v17) (V1 m c main_v14)

/-- What the region leaves in the buffers it may change: the result holds the sum of the devices' parts. -/
def outs : Outs (F := F) := fun _ r c => (Function.update (V1 m c) main_v18 (total (parts m)) : Valuation τ sig (Elt F)) r

theorem outs_v18 (c : Dev nD) : outs m 2 main_v18 c = total (parts m) := Function.update_self ..

/-! ## The semaphores the kernel owns -/

/-- The kernel's own semaphores: array and step. -/
def osem (x : Fin 4 × Fin 31) : SemLoc sig := .dma (semA x.1 x.2)

/-- The staging semaphores come before them. -/
theorem stage_sem : ∀ (w : Fin 6) (s : Fin (spec0 w).nbuf), ((spec0 w).sem s).val < 6 := by decide

theorem osem_facts : Pipeline.OwnSemFacts spec0 osem where
  isScoped := by decide +kernel
  inj x y h := by
    have := semA_inj (SemLoc.dma.inj h)
    exact Prod.ext this.1 this.2
  disj x w s h := by
    have h1 := semA_ge x.1 x.2
    rw [SemLoc.dma.inj h] at h1
    exact absurd h1 (Nat.not_le.2 (stage_sem w s))

/-! ## What the launch deals a device, and what the region's entry makes of it -/

/-- The invariants and openings a device consults. -/
def records (κ : GSem nD τ sig → ℕ) (c : Dev nD) : sProp 𝕄 :=
  iprop(cellInv ER (Rd (parts m)) (κ (barCell c)) (barCell c) ∗ cellInv ER (Rd (parts m)) (κ (barCell (up c 1))) (barCell (up c 1))
    ∗ cellInv ER (Rd (parts m)) (κ (barCell (dn c 1))) (barCell (dn c 1)) ∗ reached ER (barCell (up c 1)) 0 ∗ reached ER (barCell (dn c 1)) 0
    ∗ cellsA (parts m) κ)

instance records_persistent (κ) (c : Dev nD) : BI.Persistent (records m κ c) := by unfold records; infer_instance

/-- Of one step: the tokens of the two landings that a device's copy brings, and the credit of the one it awaits. -/
def stepHas (k k' : Fin 4) (c : Dev nD) (i : Fin 31) : sProp 𝕄 :=
  iprop(dutyTok ER (cellA k c i) 0 false ∗ dutyTok ER (cellA k' (up c 1) i) 0 false ∗ cred (tallyAt (cellA k' c i) () N))

/-- What is the device's alone, but for its right to open its own semaphores. -/
def mine (c : Dev nD) : sProp 𝕄 :=
  iprop(atPos ER (barCell c) 0 ∅ 0 ∗ dutyTok ER (barCell (up c 1)) 0 true ∗ dutyTok ER (barCell (dn c 1)) 0 false
    ∗ cred (tallyAt (barCell c) () 2) ∗ bigSep Finset.univ (stepHas (F := F) 0 1 c) ∗ bigSep Finset.univ (stepHas (F := F) 2 3 c))

def opens (c : Dev nD) : sProp 𝕄 := bigSep Finset.univ fun x : Fin 4 × Fin 31 => openTok ER (cellA x.1 c x.2)
def opened (c : Dev nD) : sProp 𝕄 :=
  bigSep Finset.univ fun x : Fin 4 × Fin 31 => iprop(atPos ER (cellA x.1 c x.2) 0 ∅ 0 ∗ reached ER (cellA x.1 c x.2) 0)

/-- What the launch deals, -/
def Tk (c : Dev nD) : sProp 𝕄 := iprop((∃ κ, records m κ c ∗ mine (F := F) c) ∗ opens (F := F) c)
/-- and what it is once the device's own semaphores are open. -/
def Xk (c : Dev nD) : sProp 𝕄 := iprop(((∃ κ, records m κ c ∗ mine (F := F) c) ∗ opened (F := F) c) ∗ levAts L lv)
/-- What is left at the region's end. -/
def Yk (c : Dev nD) : sProp 𝕄 := semVal (barCell c) 0

theorem hopen (c : Dev nD) : iprop(Tk m c ∗ Pipeline.ownSems0 osem c ∗ levAts L lv) ⊢ (|={Set.univ}=> Xk m c : sProp 𝕄) := by
  have h (κ : GSem nD τ sig → ℕ) : iprop(cellsA (parts m) κ ∗ opens (F := F) c)
      ⊢ (bigSep Finset.univ fun x : Fin 4 × Fin 31 => iprop(cellInv ER (Rd (parts m)) (κ (cellA x.1 c x.2)) (cellA x.1 c x.2) ∗ openTok ER (cellA x.1 c x.2)) : sProp 𝕄) := by
    unfold opens
    exact bigSep_with_persistent fun x _ => sep_mono (cellsA_at (parts m) κ x.1 c x.2) .rfl
  unfold Tk Xk
  iintro ⟨⟨⟨%κ, #Hr, Hm⟩, Ho⟩, Hs, #Hlev⟩
  ihave #Hc := (show records m κ c ⊢ cellsA (parts m) κ from by unfold records; iintro ⟨-, -, -, -, -, H⟩; iexact H) $$ Hr
  ihave Hio := (h κ) $$ [Ho]
  · isplitr; · iexact Hc
    iexact Ho
  imod (Rounds.cells_open ER (Rd (parts m)) Finset.univ (fun x : Fin 4 × Fin 31 => cellA x.1 c x.2) (fun x => κ (cellA x.1 c x.2))
      (fun x _ => Set.mem_univ _)) $$ [Hio Hs] with Hop
  · isplitl [Hio]; · iexact Hio
    unfold Pipeline.ownSems0 osem; iexact Hs
  imodintro
  isplitl [Hm Hop]; swap; · iexact Hlev
  isplitl [Hm]
  · iexists κ; isplitr; · iexact Hr
    iexact Hm
  unfold opened; iexact Hop

/-! ## The region's proof data -/

/-- Device `c`'s buffers before the region, by window. -/
abbrev arrOf (c : Dev nD) (w : Fin 6) : Buf (Elt F) ((cfg0.win w).arr.view.loc (c : Thread nD τ)) :=
  V1 m c (Proc.devRef .tc (Pipeline.arrRef spec0 w))

/-- The region's proof data: the arrays as the host operations leave them; after the body the operands as fetched and the sum in
    the result; the launch's means before, the counters after; all the dues before, none after. -/
def dat0 (c : Dev nD) : Dat τ (Elt F) Unit ℕ UU ℕ cfg0 c where
  A w := arrOf m c w
  after w _ := match w with
    | ⟨0, _⟩ => V1 m c main_v15
    | ⟨1, _⟩ => V1 m c main_v9
    | ⟨2, _⟩ => V1 m c main_v16
    | ⟨3, _⟩ => V1 m c main_v17
    | ⟨4, _⟩ => V1 m c main_v14
    | ⟨5, _⟩ => total (parts m)
  Φ t := if t.val = 0 then iprop(Xk m c ∗ (bigSep Finset.univ (slotAny (F := F) c)) ∗ ∃ r, prngReg c r)
    else iprop(semVal (barCell c) 0 ∗ Pipeline.ownSems0 osem c ∗ (bigSep Finset.univ (slotAny (F := F) c)) ∗ ∃ r, prngReg c r)
  q _ := fullShare
  owed t := if t.val = 0 then O₀ c else 0

def pdats : (p : Fin 1) → (c : Dev nD) → Dat τ (Elt F) Unit ℕ UU ℕ (Pipeline.pin (pcfgs (F := F)) adm p) c
  | 0 => dat0 m

/-! ### The whole-array windows -/

section Windows

variable (c : Dev nD)

theorem before_0 (d : (cfg0.win 0).block.Idx → Elt F (cfg0.win 0).elt) : (dat0 m c).before 0 t0_0 d = (V1 m c main_v15 : Vec F S1024x1024 .f32) := by
  unfold Dat.before; rw [if_pos (fetch0_0 t0_0)]
  funext i; refine congrArg (V1 m c main_v15 : Vec F S1024x1024 .f32) (funext fun a => Fin.ext ?_)
  show 0 * _ + 1 * (i a).val = (i a).val
  omega
theorem before_1 (d : (cfg0.win 1).block.Idx → Elt F (cfg0.win 1).elt) : (dat0 m c).before 1 t0_0 d = (V1 m c main_v9 : Vec F S1024x1024 .f32) := by
  unfold Dat.before; rw [if_pos (fetch0_1 t0_0)]
  funext i; refine congrArg (V1 m c main_v9 : Vec F S1024x1024 .f32) (funext fun a => Fin.ext ?_)
  show 0 * _ + 1 * (i a).val = (i a).val
  omega
theorem before_2 (d : (cfg0.win 2).block.Idx → Elt F (cfg0.win 2).elt) : (dat0 m c).before 2 t0_0 d = (V1 m c main_v16 : Vec F S1024x8x128 .f32) := by
  unfold Dat.before; rw [if_pos (fetch0_2 t0_0)]
  funext i; refine congrArg (V1 m c main_v16 : Vec F S1024x8x128 .f32) (funext fun a => Fin.ext ?_)
  show 0 * _ + 1 * (i a).val = (i a).val
  omega
theorem before_3 (d : (cfg0.win 3).block.Idx → Elt F (cfg0.win 3).elt) : (dat0 m c).before 3 t0_0 d = (V1 m c main_v17 : Vec F S1024x8x128 .f32) := by
  unfold Dat.before; rw [if_pos (fetch0_3 t0_0)]
  funext i; refine congrArg (V1 m c main_v17 : Vec F S1024x8x128 .f32) (funext fun a => Fin.ext ?_)
  show 0 * _ + 1 * (i a).val = (i a).val
  omega
theorem before_4 (d : (cfg0.win 4).block.Idx → Elt F (cfg0.win 4).elt) : (dat0 m c).before 4 t0_0 d = (V1 m c main_v14 : Vec F S1024x1024 .f32) := by
  unfold Dat.before; rw [if_pos (fetch0_4 t0_0)]
  funext i; refine congrArg (V1 m c main_v14 : Vec F S1024x1024 .f32) (funext fun a => Fin.ext ?_)
  show 0 * _ + 1 * (i a).val = (i a).val
  omega

/-- What is written back of the result is what the result's array is to hold, read through the block. -/
theorem flushed_5 (t : Fin cfg0.N) : (dat0 m c).flushed 5 t = ((cfg0.win 5).blk t).view.read (Elt F) (total (parts m)) := by
  unfold Dat.flushed
  funext i; refine congrArg (total (parts m)) (funext fun a => Fin.ext ?_)
  show (i a).val = 0 * _ + 1 * (i a).val
  omega

theorem cover_5 (i : S1024x1024.Idx) : ∃ t : Fin cfg0.N, (cfg0.win 5).flush t = true ∧ i ∈ ((cfg0.win 5).blk t).view.set := by
  refine ⟨t0_0, flush0_5 _, ?_⟩
  have e : ((cfg0.win 5).blk t0_0).view.emb i = i := funext fun a => Fin.ext (by
    show 0 * _ + 1 * (i a).val = (i a).val
    omega)
  have h := ((cfg0.win 5).blk t0_0).view.emb_mem_set i
  rw [e] at h
  exact h

/-- The result's array at the region's end. -/
theorem arrAt_5 : (dat0 m c).arrAt 5 cfg0.N = total (parts m) :=
  (dat0 m c).arrAt_eq_of_cover 5 (total (parts m)) (fun t _ => flushed_5 m c t) cover_5

theorem arrAt_end (w : Fin 6) : (dat0 m c).arrAt w cfg0.N = V2 m (outs m) c (Proc.devRef .tc (Pipeline.arrRef spec0 w)) := by
  fin_cases w
  · exact ((dat0 m c).arrAt_in 0 rfl _).trans (V2_of m (outs m) c main_v15 (by decide)).symm
  · exact ((dat0 m c).arrAt_in 1 rfl _).trans (V2_of m (outs m) c main_v9 (by decide)).symm
  · exact ((dat0 m c).arrAt_in 2 rfl _).trans (V2_of m (outs m) c main_v16 (by decide)).symm
  · exact ((dat0 m c).arrAt_in 3 rfl _).trans (V2_of m (outs m) c main_v17 (by decide)).symm
  · exact ((dat0 m c).arrAt_in 4 rfl _).trans (V2_of m (outs m) c main_v14 (by decide)).symm
  · exact (arrAt_5 m c).trans ((outs_v18 m c).symm.trans (Function.update_self (Proc.devRef .tc main_v18 : DevRef τ sig) (outs m 2 main_v18 c) (V1 m c)).symm)

end Windows

end Cert.KernelIdeal.RingProof
-- ==== Proof.Enter.lean ====
/- The kernel's region as a segment of the program: its body from what the region is entered with to what it leaves. -/
module

public import proofs.«01_k».proof.Proof.Region

@[expose] public section

noncomputable section

namespace Cert.KernelIdeal.RingProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The dues -/

theorem owed_zero (c : Dev nD) : (pdats (F := F) m 0 c).owed 0 = O₀ c := by
  show (if ((0 : Fin (cfg0.N + 1)).val = 0) then O₀ c else 0) = O₀ c; exact if_pos rfl
theorem owed_first (c : Dev nD) : (dat0 (F := F) m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem owesAt_intro {c : Dev nD} (dat : Dat τ (Elt F) Unit ℕ UU ℕ cfg0 c) (t : Fin (cfg0.N + 1))
    (O : CellTallies nD τ sig Unit) (h0 : dat.owed t = O) (W : Waits sig Unit) (hr : dat.recorded t = Set.univ) :
    (owes (c : Thread nD τ) O W : sProp 𝕄) ⊢ (dat.owesAt () t : sProp 𝕄) := by
  unfold Dat.owesAt Pipeline.owesWithin Dat.bound; rw [h0, hr]
  iintro HO; iexists W; isplitr; · ipureintro; exact fun _ _ => Or.inl trivial
  iexact HO
theorem owesAt_elim {c : Dev nD} (dat : Dat τ (Elt F) Unit ℕ UU ℕ cfg0 c) (t : Fin (cfg0.N + 1))
    (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%W, -, HO⟩; iexists W; iexact HO

theorem O₀_pos {c : Dev nD} {g : GSem nD τ sig} {u : Unit} (h : 0 < O₀ c g u) : g.1.2 = .tc ∧ 0 < lvS g.2 := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · rcases owe_pos h with ⟨i, -, rfl⟩ | ⟨i, -, rfl⟩
      · refine ⟨rfl, ?_⟩
        show 0 < lvS (.dma (semA 1 i)); rw [lvS_A]; show 0 < 2 + i.val; omega
      · refine ⟨rfl, ?_⟩
        show 0 < lvS (.dma (semA 3 i)); rw [lvS_A]; show 0 < 33 + i.val; omega
    · obtain rfl := tallyAt_pos_cell h; exact ⟨rfl, Nat.one_pos⟩
  · obtain rfl := tallyAt_pos_cell h; exact ⟨rfl, Nat.one_pos⟩

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · have hp := O₀_pos h
    exact ⟨by unfold L; rw [if_pos hp.1]; exact Finset.mem_singleton_self _, hp.2⟩
  · exact absurd h (Nat.lt_irrefl 0)

/-- The staging semaphores are at level zero. -/
theorem stage_level : ∀ (w : Fin 6) (s : Fin (spec0 w).nbuf), lvS (.dma ((spec0 w).sem s)) = 0 := by decide

/-! ## The body -/

theorem bigSep_arrays (Φ : Fin 4 × Fin 31 → sProp (MT nD τ sig Unit (Elt F) ℕ UU ℕ)) :
    bigSep Finset.univ Φ = iprop((bigSep Finset.univ fun i => Φ (0, i)) ∗ (bigSep Finset.univ fun i => Φ (1, i))
      ∗ (bigSep Finset.univ fun i => Φ (2, i)) ∗ (bigSep Finset.univ fun i => Φ (3, i))) := by
  rw [bigSep_univ_prod]
  exact bigSep_univ_eq_bigSepL [(0 : Fin 4), 1, 2, 3] (by decide) (by decide) _

theorem rsHas_intro (c : Dev nD) :
    iprop(bigSep Finset.univ (stepHas (F := F) 0 1 c) ∗ (bigSep Finset.univ fun i : Fin 31 => atPos ER (cellA 0 c i) 0 ∅ 0)
        ∗ (bigSep Finset.univ fun i : Fin 31 => atPos ER (cellA 1 c i) 0 ∅ 0)) ⊢ (bigSep Finset.univ (rsHas (F := F) c) : sProp 𝕄) := by
  have h (i : Fin 31) : iprop(stepHas (F := F) 0 1 c i ∗ atPos ER (cellA 0 c i) 0 ∅ 0 ∗ atPos ER (cellA 1 c i) 0 ∅ 0) ⊢ (rsHas (F := F) c i : sProp 𝕄) := by
    unfold stepHas rsHas
    iintro ⟨⟨H1, H2, H3⟩, H4, H5⟩
    isplitl [H1]; · iexact H1
    isplitl [H2]; · iexact H2
    isplitl [H4]; · iexact H4
    isplitl [H5]; · iexact H5
    iexact H3
  rw [← bigSep_sep', ← bigSep_sep']
  exact bigSep_mono fun i _ => h i

theorem agTodo_intro (c : Dev nD) :
    iprop(bigSep Finset.univ (stepHas (F := F) 2 3 c) ∗ (bigSep Finset.univ fun i : Fin 31 => atPos ER (cellA 2 c i) 0 ∅ 0)
        ∗ (bigSep Finset.univ fun i : Fin 31 => atPos ER (cellA 3 c i) 0 ∅ 0)) ⊢ (bigSep Finset.univ (agTodo (F := F) c) : sProp 𝕄) := by
  have h (i : Fin 31) : iprop(stepHas (F := F) 2 3 c i ∗ atPos ER (cellA 2 c i) 0 ∅ 0 ∗ atPos ER (cellA 3 c i) 0 ∅ 0) ⊢ (agTodo (F := F) c i : sProp 𝕄) := by
    unfold stepHas agTodo
    iintro ⟨⟨H1, H2, H3⟩, H4, H5⟩
    isplitl [H1]; · iexact H1
    isplitl [H2]; · iexact H2
    isplitl [H4]; · iexact H4
    isplitl [H5]; · iexact H5
    iexact H3
  rw [← bigSep_sep', ← bigSep_sep']
  exact bigSep_mono fun i _ => h i

/-- What the region is entered with makes the body's means. -/
theorem bodyHas_intro (c : Dev nD) (W : Waits sig Unit) :
    iprop(Xk m c ∗ (bigSep Finset.univ (slotAny (F := F) c)) ∗ owes (c : Thread nD τ) (O₀ c) W) ⊢ (iprop(∃ κ, bodyHas (parts m) κ c W) : sProp 𝕄) := by
  unfold Xk opened
  rw [bigSep_sep', bigSep_arrays (fun x => atPos ER (cellA x.1 c x.2) 0 ∅ 0), bigSep_arrays (fun x => reached ER (cellA x.1 c x.2) 0)]
  iintro ⟨⟨⟨⟨%κ, #Hr, Hm⟩, ⟨Ha0, Ha1, Ha2, Ha3⟩, #Ho0, #Ho1, #Ho2, #Ho3⟩, #Hlev⟩, Hs, HO⟩
  iexists κ
  unfold records mine bodyHas barKnows barHas openA
  icases Hr with ⟨#Hi, #Hiu, #Hid, #Hru, #Hrd, #Hc⟩
  icases Hm with ⟨Hat, Htu, Htd, Hcr, Hrs, Hag⟩
  isplitr
  · isplitr
    · isplitr; · iexact Hi
      isplitr; · iexact Hiu
      isplitr; · iexact Hid
      isplitr; · iexact Hru
      isplitr; · iexact Hrd
      isplitr; · iexact Hlev
      isplitr; · iexact Ho1
      iexact Ho3
    isplitr; · iexact Hc
    isplitr; · iexact Ho0
    iexact Ho2
  isplitl [Hat Htu Htd Hcr Hs HO]
  · isplitl [Hat]; · iexact Hat
    isplitl [Htu]; · iexact Htu
    isplitl [Htd]; · iexact Htd
    isplitl [Hcr]; · iexact Hcr
    isplitl [Hs]; · iexact Hs
    iexact HO
  isplitl [Hrs Ha0 Ha1]
  · iapply (rsHas_intro (F := F) c)
    isplitl [Hrs]; · iexact Hrs
    isplitl [Ha0]; · iexact Ha0
    iexact Ha1
  iapply (agTodo_intro (F := F) c)
  isplitl [Hag]; · iexact Hag
  isplitl [Ha2]; · iexact Ha2
  iexact Ha3

/-- What the body leaves is every counter at zero, the slots, and nothing owed. -/
theorem bodyGot_elim (c : Dev nD) :
    bodyGot (F := F) c ⊢ (iprop(semVal (barCell c) 0 ∗ Pipeline.ownSems0 osem c ∗ (bigSep Finset.univ (slotAny (F := F) c))
      ∗ ∃ W : Waits sig Unit, owes (c : Thread nD τ) (0 : CellTallies nD τ sig Unit) W) : sProp 𝕄) := by
  unfold bodyGot Pipeline.ownSems0 rsDone agDone osem
  rw [bigSep_arrays, bigSep_sep', bigSep_sep', bigSep_sep']
  iintro ⟨Hb, ⟨H0, H1, Hs⟩, ⟨H2, H3⟩, HO⟩
  isplitl [Hb]; · iexact Hb
  isplitl [H0 H1 H2 H3]
  · isplitl [H0]; · iexact H0
    isplitl [H1]; · iexact H1
    isplitl [H2]; · iexact H2
    iexact H3
  isplitl [Hs]; · iexact Hs
  iexact HO

omit [FloatOps F] in
theorem owns_whole (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

set_option maxHeartbeats 1000000 in
theorem body_obligation (c : Dev nD) : BodyObligation (dat0 (F := F) m c) (defs₀ (F := F)) 𝒱₀ () Set.univ := fun t => by
  obtain rfl := fin_N0 t
  rw [bigSep_W0, bigSep_W0]
  simp only [owns_whole]
  rw [show (dat0 m c).Φ t0_0.castSucc = iprop(Xk m c ∗ (bigSep Finset.univ (slotAny (F := F) c)) ∗ ∃ r, prngReg c r) from rfl,
    show (dat0 m c).Φ t0_0.succ = iprop(semVal (barCell c) 0 ∗ Pipeline.ownSems0 osem c ∗ (bigSep Finset.univ (slotAny (F := F) c)) ∗ ∃ r, prngReg c r) from rfl]
  iintro ⟨⟨HX, Hsl, Hreg⟩, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  rw [before_0] at hf0; rw [before_1] at hf1; rw [before_2] at hf2; rw [before_3] at hf3; rw [before_4] at hf4
  subst hf0 hf1 hf2 hf3 hf4
  ihave HO' := (owesAt_elim (dat0 m c) _ (O₀ c) (owed_first m c)) $$ HO
  icases HO' with ⟨%W, HO⟩
  ihave Hb := (bodyHas_intro m c W) $$ [HX Hsl HO]
  · isplitl [HX]; · iexact HX
    isplitl [Hsl]; · iexact Hsl
    iexact HO
  icases Hb with ⟨%κ, Hb⟩
  iapply (body_run 𝒱₀ (parts m) κ c W (V1 m c main_v15) (V1 m c main_v9) (V1 m c main_v14) f5 (V1 m c main_v16) (V1 m c main_v17) rfl
    (hstage0_0 0) (hstage0_1 0) (hstage0_2 0) (hstage0_3 0) (hstage0_4 0) (hstage0_5 0) (Memref.isWhole_whole _)) $$ [Hb H0 H1 H2 H3 H4 H5]
  · isplitl [Hb]; · iexact Hb
    isplitl [H0]; · iexact H0
    isplitl [H1]; · iexact H1
    isplitl [H2]; · iexact H2
    isplitl [H3]; · iexact H3
    isplitl [H4]; · iexact H4
    iexact H5
  iintro ⟨Hb, H0, H1, H2, H3, H4, H5⟩
  ihave Hg := (bodyGot_elim (F := F) c) $$ Hb
  icases Hg with ⟨Hb, Hos, Hsl, ⟨%W', HO⟩⟩
  isplitl [Hb Hos Hsl Hreg]
  · isplitl [Hb]; · iexact Hb
    isplitl [Hos]; · iexact Hos
    isplitl [Hsl]; · iexact Hsl
    iexact Hreg
  isplitl [HO]; · iapply (owesAt_intro (dat0 m c) t0_0.succ 0 (owed_last m c) W' rfl); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro; rfl

end Cert.KernelIdeal.RingProof
-- ==== Proof.Launched.lean ====
/- The launch: every semaphore's invariant, tokens dealt round the ring, and the program's run on all devices. -/
module

public import proofs.«01_k».proof.Proof.Enter

@[expose] public section

noncomputable section

namespace Cert.KernelIdeal.RingProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The region's segment -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem hin (c : Dev nD) : iprop(Pipeline.scopedRest (Pipeline.pin (pcfgs (F := F)) adm 0).spec c ∗ (∃ r, prngReg c r)
      ∗ StableHlo.held (c.tc : Thread nD τ) ∅ (V1 m c) ∗ Xk m c) ⊢ ((pdats m 0 c).Φ 0 : sProp 𝕄) := by
  rw [show (pdats m 0 c).Φ 0 = iprop(Xk m c ∗ (bigSep Finset.univ (slotAny (F := F) c)) ∗ ∃ r, prngReg c r) from rfl,
    show (Pipeline.scopedRest (Pipeline.pin (pcfgs (F := F)) adm 0).spec c : sProp 𝕄)
      = iprop(∃ f : Buf (Elt F) ((c : Thread nD τ).loc cc0_scratch0), ((c : Thread nD τ).loc cc0_scratch0) ↦{fullShare} f) from scopedRest0_eq c]
  iintro ⟨Hs, Hp, -, HX⟩
  isplitl [HX]; · iexact HX
  isplitl [Hs]; · iapply (slots_split (F := F) c); iexact Hs
  iexact Hp

theorem hout (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ Yk (F := F) c) := by
  rw [show (pdats m 0 c).Φ (Fin.last _) = iprop(semVal (barCell c) 0 ∗ Pipeline.ownSems0 osem c ∗ (bigSep Finset.univ (slotAny (F := F) c)) ∗ ∃ r, prngReg c r) from rfl,
    show (Pipeline.scopedRest (Pipeline.pin (pcfgs (F := F)) adm 0).spec c : sProp 𝕄)
      = iprop(∃ f : Buf (Elt F) ((c : Thread nD τ).loc cc0_scratch0), ((c : Thread nD τ).loc cc0_scratch0) ↦{fullShare} f) from scopedRest0_eq c]
  unfold Yk
  iintro ⟨Hb, Hos, Hs, Hp⟩
  isplitl [Hs]; · iapply (slots_join (F := F) c); iexact Hs
  isplitl [Hp]; · iexact Hp
  isplitr; · unfold StableHlo.held; rw [BI.bigSep_empty]; iempintro
  isplitl [Hos]; · iexact Hos
  iexact Hb

/-- The buffers that are no window's array. -/
abbrev Sr : Finset (DevRef τ sig) := Pipeline.ucRefs τ sig \ Pipeline.arrRefs spec0

theorem arr_sub : Pipeline.arrRefs (τ := τ) spec0 ⊆ Pipeline.ucRefs τ sig :=
  Pipeline.arrRefs_sub_ucRefs spec0 (by decide)

theorem rest_same (c : Dev nD) : ∀ b ∈ Sr \ ∅, V2 m (outs m) c b = V1 m c b := fun b hb => by
  refine Function.update_of_ne (fun h => ?_) _ _
  subst h
  rw [Finset.sdiff_empty] at hb
  refine (Finset.mem_sdiff.mp hb).2 ?_
  unfold Pipeline.arrRefs
  exact Finset.mem_map_of_mem _ (Finset.mem_image.mpr ⟨(5 : Fin 6), Finset.mem_univ _, rfl⟩)

set_option backward.isDefEq.respectTransparency.types false in
/-- The kernel as a segment. -/
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ Sr (Finset.empty_subset _) kitP rfl (fun c => (body_obligation m c).loose)
    (fun _ => 0) O₀ (fun c => (owed_zero m c).trans (zero_add _).symm) (owed_last m) (fun _ => rfl)
    (fun c w => (pdats m 0 c).share_full (fun _ => rfl) w)
    (V1 m) (V2 m (outs m)) (rest_same m)
    (Tk m) (Yk (F := F)) (Xk m) (Yk (F := F)) (hopen m) (hin m) (hout m)
    (fun c => by iintro H; imodintro; iexact H)
    (fun _ => 0)
    ⟨fun c w s => by rw [L_tc]; exact Finset.mem_singleton_self _, fun c w s => le_of_eq (stage_level w s), fun c t g i h => cutD m c t g i h⟩
    (fun _ => iprop(emp))
    (fun c w => rfl) (fun c w => arrAt_end m c w)

/-! ## Between the program's items -/

/-- What rides beside the buffers: before and during the kernel what the launch deals, after it the barrier's counter. -/
def E : Fin 2 → Dev nD → sProp (MT nD τ sig Unit (Elt F) ℕ UU ℕ)
  | 0 => fun c => iprop((∃ r, prngReg c r) ∗ Tk m c ∗ ∃ W, owes (c : Thread nD τ) (O₀ c) W)
  | 1 => fun c => iprop(semVal (barCell c) 0 ∗ ∃ W, owes (c : Thread nD τ) (0 : CellTallies nD τ sig Unit) W)

theorem reg_pre (c : Dev nD) : iprop(StableHlo.held (c : Thread nD τ) (Pipeline.ucRefs τ sig) (V1 m c) ∗ E m 0 c) ⊢ (reg m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) Sr (V1 m c) ∗ emp) ∗ Tk m c ∗ ∃ Wd, owes (c : Thread nD τ) (0 + O₀ c) Wd)
  rw [StableHlo.held_sub_split (c.tc : Thread nD τ) arr_sub (V1 m c), zero_add]
  unfold E
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c ⊢ iprop(StableHlo.held (c : Thread nD τ) (Pipeline.ucRefs τ sig) (V2 m (outs m) c) ∗ E m 1 c) := by
  show iprop(StableHlo.held (c.tc : Thread nD τ) (Pipeline.arrRefs (τ := τ) (pcfgs (F := F) 0).spec) (V2 m (outs m) c) ∗ (∃ r, prngReg c r)
    ∗ (StableHlo.held (c.tc : Thread nD τ) Sr (V2 m (outs m) c) ∗ emp) ∗ Yk (F := F) c ∗ ∃ Wd, owes (c : Thread nD τ) (0 : CellTallies nD τ sig Unit) Wd) ⊢ _
  rw [StableHlo.held_sub_split (c.tc : Thread nD τ) arr_sub (V2 m (outs m) c)]
  unfold E Yk
  iintro ⟨Ha, -, ⟨Hr, -⟩, Hb, HO⟩
  isplitl [Ha Hr]
  · isplitl [Ha]; · iexact Ha
    iexact Hr
  isplitl [Hb]; · iexact Hb
  iexact HO

/-! ## The cells and the tokens -/

def barEmb : Dev nD ↪ GSem nD τ sig := ⟨fun c => barCell c, fun _ _ h => congrArg (fun g : GSem nD τ sig => g.1.1) h⟩

/-- A cell of the loops by its array, device and step. -/
def loopEmb : Fin 4 × Dev nD × Fin 31 ↪ GSem nD τ sig :=
  ⟨fun x => cellA x.1 x.2.1 x.2.2, fun x y h => by
    have h1 : x.2.1 = y.2.1 := congrArg (fun g : GSem nD τ sig => g.1.1) h
    have h2 := semA_inj (SemLoc.dma.inj (congrArg Prod.snd h))
    exact Prod.ext h2.1 (Prod.ext h1 h2.2)⟩

abbrev barCells : Finset (GSem nD τ sig) := Finset.univ.map barEmb
abbrev loopCells : Finset (GSem nD τ sig) := Finset.univ.map loopEmb

/-- No cell of the loops is a barrier. -/
theorem loop_ne_bar (x : Fin 4 × Dev nD × Fin 31) (c : Dev nD) : loopEmb x ≠ barCell c := fun h => by
  have h' : (SemLoc.dma (semA x.1 x.2.2) : SemLoc sig) = .reg barrier0 := congrArg Prod.snd h
  nomatch h'

theorem cells_disjoint : Disjoint barCells loopCells := by
  rw [Finset.disjoint_left]
  rintro g h₁ h₂
  obtain ⟨c, -, rfl⟩ := Finset.mem_map.mp h₁
  obtain ⟨x, -, h⟩ := Finset.mem_map.mp h₂
  exact loop_ne_bar x c h

/-- The duties of the barriers and of the loops. -/
def duty : Dev nD × Bool ⊕ Fin 4 × Dev nD × Fin 31 → GSem nD τ sig × ℕ × Bool
  | .inl x => (barCell x.1, 0, x.2)
  | .inr x => (loopEmb x, 0, false)
theorem duty_inj : Function.Injective duty := by
  rintro (x | x) (y | y) h
  · exact congrArg Sum.inl (Prod.ext (congrArg (fun t : GSem nD τ sig × ℕ × Bool => t.1.1.1) h) (congrArg (fun t : GSem nD τ sig × ℕ × Bool => t.2.2) h))
  · exact (loop_ne_bar y x.1 (congrArg Prod.fst h).symm).elim
  · exact (loop_ne_bar x y.1 (congrArg Prod.fst h)).elim
  · exact congrArg Sum.inr (loopEmb.injective (congrArg (fun t : GSem nD τ sig × ℕ × Bool => t.1) h))
def duties : Finset (GSem nD τ sig × ℕ × Bool) := Finset.univ.map ⟨duty, duty_inj⟩

/-- A resource over array, device and step, dealt by device. -/
theorem by_device (Φ : Fin 4 → Dev nD → Fin 31 → sProp (MT nD τ sig Unit (Elt F) ℕ UU ℕ)) :
    (bigSep Finset.univ fun x : Fin 4 × Dev nD × Fin 31 => Φ x.1 x.2.1 x.2.2)
      = bigSep Finset.univ fun c : Dev nD => iprop((bigSep Finset.univ (Φ 0 c)) ∗ (bigSep Finset.univ (Φ 1 c)) ∗ (bigSep Finset.univ (Φ 2 c)) ∗ (bigSep Finset.univ (Φ 3 c))) := by
  rw [bigSep_univ_prod, bigSep_sep', bigSep_sep', bigSep_sep']
  rw [show (bigSep Finset.univ fun a : Fin 4 => bigSep Finset.univ fun b : Dev nD × Fin 31 => Φ a b.1 b.2)
      = bigSep Finset.univ fun a : Fin 4 => bigSep Finset.univ fun c : Dev nD => bigSep Finset.univ (Φ a c) from
    bigSep_congr fun a _ => bigSep_univ_prod _]
  exact bigSep_univ_eq_bigSepL [(0 : Fin 4), 1, 2, 3] (by decide) (by decide) _

/-- The tokens of the duties that device `c` pays. -/
def pays (c : Dev nD) : sProp 𝕄 :=
  iprop((dutyTok ER (barCell (up c 1)) 0 true ∗ dutyTok ER (barCell (dn c 1)) 0 false)
    ∗ (bigSep Finset.univ fun i : Fin 31 => dutyTok ER (cellA 0 c i) 0 false) ∗ (bigSep Finset.univ fun i : Fin 31 => dutyTok ER (cellA 1 (up c 1) i) 0 false)
    ∗ (bigSep Finset.univ fun i : Fin 31 => dutyTok ER (cellA 2 c i) 0 false) ∗ (bigSep Finset.univ fun i : Fin 31 => dutyTok ER (cellA 3 (up c 1) i) 0 false))

theorem bar_true : (bigSep Finset.univ fun c : Dev nD => (dutyTok ER (barCell (up c 1)) 0 true : sProp 𝕄))
    = bigSep Finset.univ fun c : Dev nD => dutyTok ER (barCell c) 0 true :=
  (bigSep_univ_equiv ring fun c : Dev nD => (dutyTok ER (barCell c) 0 true : sProp 𝕄)).symm
theorem bar_false : (bigSep Finset.univ fun c : Dev nD => (dutyTok ER (barCell (dn c 1)) 0 false : sProp 𝕄))
    = bigSep Finset.univ fun c : Dev nD => dutyTok ER (barCell c) 0 false :=
  (bigSep_univ_equiv ring.symm fun c : Dev nD => (dutyTok ER (barCell c) 0 false : sProp 𝕄)).symm
/-- One array's tokens, counted from the next device. -/
theorem next_row (k : Fin 4) : (bigSep Finset.univ fun c : Dev nD => bigSep Finset.univ fun i : Fin 31 => (dutyTok ER (cellA k (up c 1) i) 0 false : sProp 𝕄))
    = bigSep Finset.univ fun c : Dev nD => bigSep Finset.univ fun i : Fin 31 => dutyTok ER (cellA k c i) 0 false :=
  (bigSep_univ_equiv ring fun c : Dev nD => bigSep Finset.univ fun i : Fin 31 => (dutyTok ER (cellA k c i) 0 false : sProp 𝕄)).symm

theorem toks_around : bigSep duties (fun x => (dutyTok ER x.1 x.2.1 x.2.2 : sProp 𝕄)) = bigSep Finset.univ fun c : Dev nD => pays (F := F) c := by
  unfold duties pays
  rw [bigSep_map, bigSep_univ_sum, bigSep_sep', bigSep_sep']
  refine congrArg₂ _ ?_ ?_
  · rw [bigSep_univ_prod, bar_true, bar_false, ← bigSep_sep']
    exact bigSep_congr fun c _ => bigSep_univ_eq_bigSepL [true, false] (by decide) (by decide) _
  · refine (by_device (F := F) fun k c i => dutyTok ER (cellA k c i) 0 false).trans ?_
    rw [bigSep_sep', bigSep_sep', bigSep_sep', bigSep_sep', bigSep_sep', bigSep_sep', next_row, next_row]

end Cert.KernelIdeal.RingProof
-- ==== Proof.Run.lean ====
/- The program's run on all devices: what the launch grants each device, and what every final state holds. -/
module

public import proofs.«01_k».proof.Proof.Launched
public import Idealize.ShloMosaic.Harness.Basic

@[expose] public section

noncomputable section

namespace Cert.KernelIdeal.RingProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The credit each device starts with -/

theorem bar_credit_up (c : Dev nD) : (Pipeline.launchCred (fun d => (tallyAt (barCell (up d 1)) () 1 : CellTallies nD τ sig Unit)) c : sProp 𝕄)
    = cred (tallyAt (barCell c) () 1) :=
  Pipeline.launchCred_of_sum (fun d => tallyAt (barCell (up d 1)) () 1) (fun d => tallyAt (barCell d) () 1)
    (Equiv.sum_comp ring fun d : Dev nD => (tallyAt (barCell d) () 1 : CellTallies nD τ sig Unit))
    (fun d g h => by
      by_contra hg
      exact h (by rw [tallyAt_ne_cell (fun e => hg (by rw [e]))])) c
theorem bar_credit_dn (c : Dev nD) : (Pipeline.launchCred (fun d => (tallyAt (barCell (dn d 1)) () 1 : CellTallies nD τ sig Unit)) c : sProp 𝕄)
    = cred (tallyAt (barCell c) () 1) :=
  Pipeline.launchCred_of_sum (fun d => tallyAt (barCell (dn d 1)) () 1) (fun d => tallyAt (barCell d) () 1)
    (Equiv.sum_comp ring.symm fun d : Dev nD => (tallyAt (barCell d) () 1 : CellTallies nD τ sig Unit))
    (fun d g h => by
      by_contra hg
      exact h (by rw [tallyAt_ne_cell (fun e => hg (by rw [e]))])) c
theorem loop_credit (k : Fin 4) (c : Dev nD) :
    (Pipeline.launchCred (fun d => (∑ i ∈ rem 0, tallyAt (cellA k (up d 1) i) () N : CellTallies nD τ sig Unit)) c : sProp 𝕄)
      = bigSep Finset.univ fun i : Fin 31 => cred (tallyAt (cellA k c i) () N) := by
  have hr : rem 0 = Finset.univ := by decide
  rw [hr]
  refine (Pipeline.launchCred_of_sum _ (fun d => ∑ i : Fin 31, tallyAt (cellA k d i) () N)
    (Equiv.sum_comp ring fun d : Dev nD => (∑ i : Fin 31, tallyAt (cellA k d i) () N : CellTallies nD τ sig Unit)) ?_ c).trans
    (Pipeline.cred_finsetSum _ _)
  intro d g h
  by_contra hg
  refine h ?_
  rw [Finset.sum_apply]
  exact Finset.sum_eq_zero fun i _ => tallyAt_ne_cell (g' := g) (fun e => hg (by rw [e])) () N

/-- A device's credit: two at its barrier, one landing at every step of each loop. -/
theorem creds (c : Dev nD) : (Pipeline.launchCred O₀ c : sProp 𝕄)
    ⊢ iprop(cred (tallyAt (barCell c) () 2) ∗ (bigSep Finset.univ fun i : Fin 31 => cred (tallyAt (cellA 1 c i) () N))
      ∗ bigSep Finset.univ fun i : Fin 31 => cred (tallyAt (cellA 3 c i) () N)) := by
  have h2 : (tallyAt (barCell c) () 2 : CellTallies nD τ sig Unit) = tallyAt (barCell c) () 1 + tallyAt (barCell c) () 1 :=
    (tallyAt_add (barCell c) () 1 1).symm
  have e : (Pipeline.launchCred O₀ c : sProp 𝕄) = iprop(((Pipeline.launchCred (fun d => oweRS d 0) c ∗ Pipeline.launchCred (fun d => oweAG d 0) c)
      ∗ Pipeline.launchCred (fun d => (tallyAt (barCell (up d 1)) () 1 : CellTallies nD τ sig Unit)) c)
      ∗ Pipeline.launchCred (fun d => (tallyAt (barCell (dn d 1)) () 1 : CellTallies nD τ sig Unit)) c) := by
    rw [← Pipeline.launchCred_add, ← Pipeline.launchCred_add, ← Pipeline.launchCred_add]; rfl
  rw [e, bar_credit_up, bar_credit_dn,
    show (Pipeline.launchCred (fun d => oweRS d 0) c : sProp 𝕄) = bigSep Finset.univ fun i : Fin 31 => cred (tallyAt (cellA 1 c i) () N) from loop_credit 1 c,
    show (Pipeline.launchCred (fun d => oweAG d 0) c : sProp 𝕄) = bigSep Finset.univ fun i : Fin 31 => cred (tallyAt (cellA 3 c i) () N) from loop_credit 3 c,
    h2, BI.Entails.antisymm (cred_add (Val := Elt F) (Name := ℕ) (U := UU) (Lvl := ℕ) (tallyAt (barCell c) () 1 : CellTallies nD τ sig Unit) (tallyAt (barCell c) () 1)).1 (cred_add _ _).2]
  iintro ⟨⟨⟨H1, H2⟩, H3⟩, H4⟩
  isplitl [H3 H4]
  · isplitl [H3]; · iexact H3
    iexact H4
  isplitl [H1]; · iexact H1
  iexact H2

/-! ## The launch's own resources -/

/-- The launch element: the pipeline's at its staging cells, the ring's at its own. -/
def u₀ : UU :=
  (initOf (Pipeline.cells (Pipeline.pin (pcfgs (F := F)) adm) cellOf_inj) (Pipeline.launchToks (Pipeline.pin (pcfgs (F := F)) adm) cellOf_inj),
    launchOf barCells loopCells duties)

/-- A resource parked at one device. -/
def parked (c₀ : Dev nD) (X : sProp (MT nD τ sig Unit (Elt F) ℕ UU ℕ)) (c : Dev nD) : sProp (MT nD τ sig Unit (Elt F) ℕ UU ℕ) :=
  if c = c₀ then X else iprop(emp)
theorem bigSep_parked (c₀ : Dev nD) (X : sProp (MT nD τ sig Unit (Elt F) ℕ UU ℕ)) : bigSep Finset.univ (parked c₀ X) = X := by
  rw [bigSep_univ_at _ c₀, bigSep_congr (s := Finset.univ.erase c₀) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

def G : Dev nD → sProp (MT nD τ sig Unit (Elt F) ℕ UU ℕ) := parked 0 (BI.own (ER (launchOf barCells loopCells duties)))

/-- Every invariant, and the barriers' first round. -/
def allRecords (κ : GSem nD τ sig → ℕ) : sProp 𝕄 :=
  iprop((bigSep (barCells ∪ loopCells) fun g => cellInv ER (Rd (parts m)) (κ g) g) ∗ bigSep barCells fun g => reached ER g 0)
instance allRecords_persistent (κ : GSem nD τ sig → ℕ) : BI.Persistent (allRecords m κ) := by unfold allRecords; infer_instance

theorem inv_bar (κ : GSem nD τ sig → ℕ) (c : Dev nD) :
    (bigSep (barCells ∪ loopCells) fun g => (cellInv ER (Rd (parts m)) (κ g) g : sProp 𝕄)) ⊢ cellInv ER (Rd (parts m)) (κ (barCell c)) (barCell c) :=
  bigSep_elim (Finset.mem_union_left _ (Finset.mem_map_of_mem barEmb (Finset.mem_univ c)))
theorem inv_loop (κ : GSem nD τ sig → ℕ) :
    (bigSep (barCells ∪ loopCells) fun g => (cellInv ER (Rd (parts m)) (κ g) g : sProp 𝕄)) ⊢ cellsA (parts m) κ := by
  rw [bigSep_union cells_disjoint]
  have h : (bigSep loopCells fun g => (cellInv ER (Rd (parts m)) (κ g) g : sProp 𝕄)) = cellsA (parts m) κ := by rw [bigSep_map]; rfl
  rw [h]
  exact (show iprop((bigSep barCells fun g => (cellInv ER (Rd (parts m)) (κ g) g : sProp 𝕄)) ∗ cellsA (parts m) κ) ⊢ cellsA (parts m) κ from by
    iintro ⟨-, H⟩; iexact H)
theorem reached_bar (c : Dev nD) : (bigSep barCells fun g => (reached ER g 0 : sProp 𝕄)) ⊢ reached ER (barCell c) 0 :=
  bigSep_elim (Finset.mem_map_of_mem barEmb (Finset.mem_univ c))

theorem records_intro (κ : GSem nD τ sig → ℕ) (c : Dev nD) : allRecords m κ ⊢ records m κ c := by
  unfold allRecords records
  iintro ⟨#HI, #HR⟩
  isplitr; · iapply (inv_bar m κ c); iexact HI
  isplitr; · iapply (inv_bar m κ (up c 1)); iexact HI
  isplitr; · iapply (inv_bar m κ (dn c 1)); iexact HI
  isplitr; · iapply (reached_bar (F := F) (up c 1)); iexact HR
  isplitr; · iapply (reached_bar (F := F) (dn c 1)); iexact HR
  iapply (inv_loop m κ); iexact HI

/-- The rights to open the loops' cells, by device. -/
theorem opens_deal : bigSep loopCells (fun g => (openTok ER g : sProp 𝕄)) = bigSep Finset.univ fun c : Dev nD => opens (F := F) c := by
  rw [bigSep_map]
  refine (by_device (F := F) fun k c i => openTok ER (cellA k c i)).trans (bigSep_congr fun c _ => ?_)
  unfold opens
  rw [bigSep_univ_prod]
  exact (bigSep_univ_eq_bigSepL [(0 : Fin 4), 1, 2, 3] (by decide) (by decide)
    fun k : Fin 4 => (bigSep Finset.univ fun i : Fin 31 => openTok ER (cellA k c i) : sProp 𝕄)).symm

/-- What a device has of its own once the launch has dealt. -/
def bundle (c : Dev nD) : sProp 𝕄 :=
  iprop(atPos ER (barCell c) 0 ∅ 0 ∗ opens (F := F) c ∗ pays (F := F) c ∗ Pipeline.launchCred O₀ c
    ∗ owes (c : Thread nD τ) (O₀ c) ∅ ∗ ∃ r, prngReg c r)

theorem steps_intro (k k' : Fin 4) (c : Dev nD) :
    iprop((bigSep Finset.univ fun i : Fin 31 => dutyTok ER (cellA k c i) 0 false) ∗ (bigSep Finset.univ fun i : Fin 31 => dutyTok ER (cellA k' (up c 1) i) 0 false)
      ∗ bigSep Finset.univ fun i : Fin 31 => cred (tallyAt (cellA k' c i) () N)) ⊢ (bigSep Finset.univ (stepHas (F := F) k k' c) : sProp 𝕄) :=
  Entails.of_eq (by
    rw [← bigSep_sep', ← bigSep_sep']; rfl)

theorem E_intro (κ : GSem nD τ sig → ℕ) (c : Dev nD) : iprop(allRecords m κ ∗ bundle (F := F) c) ⊢ E m 0 c := by
  unfold bundle E Tk mine pays
  iintro ⟨#HR, Hat, Hop, ⟨⟨Hu, Hd⟩, H0, H1, H2, H3⟩, Hc, HO, Hp⟩
  ihave Hc' := (creds (F := F) c) $$ Hc
  icases Hc' with ⟨Hcb, Hc1, Hc3⟩
  isplitl [Hp]; · iexact Hp
  isplitr [HO]
  · isplitr [Hop]
    · iexists κ
      isplitr; · iapply (records_intro m κ c); iexact HR
      isplitl [Hat]; · iexact Hat
      isplitl [Hu]; · iexact Hu
      isplitl [Hd]; · iexact Hd
      isplitl [Hcb]; · iexact Hcb
      isplitl [H0 H1 Hc1]
      · iapply (steps_intro (F := F) 0 1 c)
        isplitl [H0]; · iexact H0
        isplitl [H1]; · iexact H1
        iexact Hc1
      · iapply (steps_intro (F := F) 2 3 c)
        isplitl [H2]; · iexact H2
        isplitl [H3]; · iexact H3
        iexact Hc3
    · iexact Hop
  · iexists ∅; iexact HO

theorem unscoped_bar (c : Dev nD) : (unscopedSems0 c : sProp 𝕄) = semVal (barCell c) 0 := by
  unfold unscopedSems0
  rw [show (Finset.univ.filter fun sm : SemLoc sig => ¬ sm.isScoped .tc) = {SemLoc.reg barrier0} from by decide +kernel, BI.bigSep_singleton]

theorem init : iprop((bigSep Finset.univ fun c : Dev nD => iprop(unscopedSems0 c ∗ owes (c : Thread nD τ) (O₀ c) ∅ ∗ Pipeline.launchCred O₀ c
      ∗ prngReg c (ρ c) ∗ G c)) ∗ levAts L lv) ⊢ (|={Set.univ}=> bigSep Finset.univ (E m 0) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hcore (c : Dev nD) : iprop(unscopedSems0 c ∗ owes (c : Thread nD τ) (O₀ c) ∅ ∗ Pipeline.launchCred O₀ c ∗ prngReg c (ρ c) ∗ G c)
      ⊢ (iprop((Pipeline.launchCred O₀ c ∗ owes (c : Thread nD τ) (O₀ c) ∅ ∗ ∃ r, prngReg c r) ∗ (semVal (barCell c) 0 ∗ G c)) : sProp 𝕄) := by
    rw [unscoped_bar]
    iintro ⟨Hus, HO, Hcr, Hp, HG⟩
    isplitr [Hus HG]
    · isplitl [Hcr]; · iexact Hcr
      isplitl [HO]; · iexact HO
      iexists (ρ c); iexact Hp
    isplitl [Hus]; · iexact Hus
    iexact HG
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop((Pipeline.launchCred O₀ c ∗ owes (c : Thread nD τ) (O₀ c) ∅ ∗ ∃ r, prngReg c r) ∗ (semVal (barCell c) 0 ∗ G c)) : sProp 𝕄)
      from bigSep_mono fun c _ => hcore c) $$ H
  ihave H2 := Idealize.ShloMosaic.Smoke.bigSep_unpair $$ H'; icases H2 with ⟨HB, H3⟩
  ihave H4 := Idealize.ShloMosaic.Smoke.bigSep_unpair $$ H3; icases H4 with ⟨Hv, HG⟩
  ihave Hu := (show bigSep Finset.univ (G (F := F)) ⊢ BI.own (ER (launchOf barCells loopCells duties)) from
    Entails.of_eq (bigSep_parked (F := F) 0 (BI.own (ER (launchOf barCells loopCells duties))))) $$ HG
  imod (Rounds.fund_launch ER (Rd (parts m)) cells_disjoint (fun g _ h => h) duties) $$ [Hv Hu] with ⟨%κ, -, #Hinv, #Hr, Hat, Hopen, Htok⟩
  · isplitl [Hv]
    · iapply hv $$ Hv
    · iexact Hu
  imodintro
  iapply (bigSep_with_persistent (R := allRecords m κ) (Φ := fun c => bundle (F := F) c) fun c _ => E_intro m κ c)
  isplitr
  · unfold allRecords
    isplitr; · iexact Hinv
    iexact Hr
  unfold bundle
  iapply Idealize.ShloMosaic.Smoke.bigSep_pair; isplitl [Hat]; · iapply hat $$ Hat
  iapply Idealize.ShloMosaic.Smoke.bigSep_pair; isplitl [Hopen]; · iapply (Entails.of_eq (opens_deal (F := F))) $$ Hopen
  iapply Idealize.ShloMosaic.Smoke.bigSep_pair; isplitl [Htok]; · iapply (Entails.of_eq (toks_around (F := F))) $$ Htok
  iexact HB

/-! ## The run -/

/-- Device `c`'s result: the sum of the devices' parts under a leading axis of one. -/
theorem result (c : Dev nD) : V3 m (outs m) c main_v19 = broadcastInDim S1x1024x1024 ![1, 2] bcast_S1024x1024_S1x1024x1024_1_2 (total (parts m)) := by
  rw [show V3 m (outs m) c main_v19 = StableHlo.after hostOps1 (V2 m (outs m) c) main_v19 from rfl, StableHlo.after_cons, StableHlo.after_nil,
    StableHlo.unary_result]
  refine congrArg (fun x : Vec F S1024x1024 .f32 => broadcastInDim S1x1024x1024 ![1, 2] bcast_S1024x1024_S1x1024x1024_1_2 x) ?_
  exact (Function.update_self (Proc.devRef .tc main_v18 : DevRef τ sig) (outs m 2 main_v18 c) (V1 m c)).trans (outs_v18 m c)

theorem unscoped_eq : ∀ sm : SemLoc sig, sm.isScoped .tc = false → sm = .reg barrier0 := by decide +kernel

/-- What a final state holds of device `c`. -/
def Ends (c : Dev nD) (s : MemSt nD τ sig (Elt F)) : Prop :=
  s.mem ((c.tc : Thread nD τ).loc main_v19) = broadcastInDim S1x1024x1024 ![1, 2] bcast_S1024x1024_S1x1024x1024_1_2 (total (parts m))
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

set_option backward.isDefEq.respectTransparency.types false in
/-- Every execution of the program on the devices ends, and at its end every device's result is the sum of the devices' parts,
    every argument is as it was and every semaphore reads zero. -/
theorem run_main : θ_run defs (onTc (τ := τ) (main (F := F))) ⟨m, fun _ => 0, ρ⟩
    (fun r => (∀ c : Dev nD, Ends m c r.2) ∧ r.2.sem = fun _ => 0) := by
  refine Pipeline.θ_run_regions_kit_dev_sems (pcfgs (F := F)) adm (pdats m) () cellOf_inj EP defs₀ 𝒱₀ L lv m ρ main
    (segs m (outs m) 𝒱₀ L lv (E m) () (pdats m) (reg m))
    (fun c Q => by
      rewrite [main_chain c, Pipeline.Seg.run_eq_chain,
        show (segs m (outs m) 𝒱₀ L lv (E m) () (pdats m) (reg m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide) O₀ L_of_ne (G (F := F)) (u₀ (F := F))
    (by
      unfold u₀ G
      iintro Hu
      ihave H := (ownU_pair _ _) $$ Hu
      icases H with ⟨HP, HX⟩
      imodintro
      isplitl [HP]; · iexact HP
      rw [bigSep_parked]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m (outs m) c) ∗ semVal (barCell c) 0))
    (hch := fun c => ⟨.rfl, reg_pre m c, reg_post m c, ?_⟩)
    (hinit := ?_) (QY := fun c s => Ends m c s ∧ s.sem (barCell c) = 0)
    (hfin := fun c s' => ?_) (hQ := fun s h hs => ⟨fun c => (h c).1, sem_eq_zero hs fun c sm hsm => by
      obtain rfl := unscoped_eq sm hsm
      exact (h c).2⟩)
  · show iprop(StableHlo.held (c : Thread nD τ) (Pipeline.ucRefs τ sig) (V3 m (outs m) c)
        ∗ (semVal (barCell c) 0 ∗ ∃ W, owes (c : Thread nD τ) (0 : CellTallies nD τ sig Unit) W)) ⊢ _
    iintro ⟨Hh, Hb, HO⟩
    isplitr [HO]
    · isplitl [Hh]; · iexact Hh
      iexact Hb
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G (F := F) c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (init m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨⟨(h (Proc.devRef .tc main_v19) (Finset.mem_filter.mpr ⟨StableHlo.devRef_mem_tcRefs main_v19, by decide⟩)).trans (result m c),
        (h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c),
        (h (Proc.devRef .tc main_arg3) (Finset.mem_filter.mpr ⟨StableHlo.devRef_mem_tcRefs main_arg3, by decide⟩)).trans (V3_main_arg3 m (outs m) c),
        (h (Proc.devRef .tc main_arg4) (Finset.mem_filter.mpr ⟨StableHlo.devRef_mem_tcRefs main_arg4, by decide⟩)).trans (V3_main_arg4 m (outs m) c)⟩,
        by simpa using hb⟩
    · iexact HSI

end Cert.KernelIdeal.RingProof
-- ==== Proof.HeadMath.lean ====
/- One head of the local attention as functions of indices over the extended reals: the kernel and the reference both
   compute it. -/
module

public import Idealize.ShloMosaic.Lib.Pointwise
public import Idealize.ShloMosaic.PureOps.Ideal

@[expose] public section

noncomputable section

namespace Cert.HeadMath

open Idealize.ShloMosaic

/-- A table of extended reals with `a` rows and `b` columns. -/
abbrev Table (a b : ℕ) : Type := Fin a → Fin b → EReal

/-- The product of two tables. -/
def prod {a b c : ℕ} (x : Table a b) (y : Table b c) : Table a c := fun i j => ∑ k, x i k * y k j

/-- The mask: row `i` sees the columns at most 128 away. -/
def near (i j : Fin 1024) : BitVec 1 :=
  IntOp.cmpi .sle (IntOp.absi (IntOp.subi (BitVec.ofNat 32 i.val) (BitVec.ofNat 32 j.val))) 128#32

/-- The scaled and masked scores of the queries `q` against the keys `k`. -/
def score (q k : Table 1024 128) : Table 1024 1024 := fun i j =>
  Scalar.select (near i j) ((∑ d, q i d * k j d) * Ideal.ofBits FTy.f32 0x3DB504F3#32) (Ideal.ofBits FTy.f32 0xCE6E6B28#32)

/-- The exponential of the scores' distance to their row's maximum. -/
def expo (s : Table 1024 1024) : Table 1024 1024 := fun i j =>
  Ideal.exp (s i j - Finset.univ.fold max (Ideal.ofBits FTy.f32 0xFF800000#32) fun l => s i l)

/-- Each row divided by its sum. -/
def weight (e : Table 1024 1024) : Table 1024 1024 := fun i j => Ideal.div (e i j) (∑ l, e i l)

/-- The context of one head: the weights times the values. -/
def context (x : Table 1024 1024) (wq k v : Table 1024 128) : Table 1024 128 :=
  prod (weight (expo (score (prod x wq) k))) v

/-- One head's contribution to the result. -/
def head (x : Table 1024 1024) (wq k v : Table 1024 128) (wo : Table 128 1024) : Table 1024 1024 :=
  prod (context x wq k v) wo

end Cert.HeadMath
-- ==== Proof.RefStages.lean ====
/- The reference's operations as six stages, and what they compute at an index over the extended reals. -/
module

public import proofs.«01_k».proof.Proof.Gen.ReferenceIdeal
public import proofs.«01_k».proof.Proof.HeadMath

@[expose] public section

noncomputable section

namespace Cert.ReferenceIdeal.Attention

open Idealize.ShloMosaic Idealize.ShloMosaic.TcCoe
open Cert.ReferenceIdeal Cert.ReferenceIdeal.Gen Cert.HeadMath

/-- The mask: which columns a row sees. -/
def maskR : IVec S1024x1024 1 :=
  cmpi .sle (absi (subi (broadcastInDim S1024x1024 ![0, 1] bcast_S1024x1_S1024x1024_0_1 (broadcastInDim S1024x1 ![0] bcast_S1024_S1024x1_0 (iotaInDim S1024 32 0)))
    (broadcastInDim S1024x1024 ![0, 1] bcast_S1x1024_S1024x1024_0_1 (broadcastInDim S1x1024 ![1] bcast_S1024_S1x1024_1 (iotaInDim S1024 32 0)))))
    (broadcastInDim S1024x1024 ![] bcast_S_S1024x1024 (constantI S_ 32 128#32))

/-- Whether a row sees any column. -/
def keepR : IVec S1024 1 := Host.reduce IntOp.ori maskR (constantI S_ 1 0#1) reducesTo_S1024x1024_S1024_d1 h_S_

/-- The queries of all heads. -/
def qryR (x : FVec Ideal S1x1024x1024 .f32) (wq : FVec Ideal S1024x32768 .f32) : FVec Ideal S1x1024x256x128 .f32 :=
  shapeCast _ (Host.dotGeneral dot_S1x1024x1024_S1024x32768_S1x1024x32768_2_0_01_1_n_n none x wq) shapeCasts_S1x1024x32768_S1x1024x256x128

/-- The masked scores of all heads. -/
def scoreR (q k : FVec Ideal S1x1024x256x128 .f32) : FVec Ideal S1x256x1024x1024 .f32 :=
  select (broadcastInDim S1x256x1024x1024 ![0, 1, 2, 3] bcast_S1x1x1024x1024_S1x256x1024x1024_0_1_2_3
      (broadcastInDim S1x1x1024x1024 ![2, 3] bcast_S1024x1024_S1x1x1024x1024_2_3 maskR))
    (mulf (Host.dotGeneral dot_S1x1024x256x128_S1x1024x256x128_S1x256x1024x1024_3_3_1_1_02_02 none q k)
      (broadcastInDim S1x256x1024x1024 ![] bcast_S_S1x256x1024x1024 (constant S_ .f32 0x3DB504F3#32)))
    (broadcastInDim S1x256x1024x1024 ![] bcast_S_S1x256x1024x1024 (id (constant S_ .f32 0xCE6E6B28#32)))

/-- The exponentials of the scores' distances to their rows' maxima. -/
def expR (s : FVec Ideal S1x256x1024x1024 .f32) : FVec Ideal S1x256x1024x1024 .f32 :=
  Host.exp (subf s (broadcastInDim S1x256x1024x1024 ![0, 1, 2, 3] bcast_S1x256x1024x1_S1x256x1024x1024_0_1_2_3
    (broadcastInDim S1x256x1024x1 ![0, 1, 2] bcast_S1x256x1024_S1x256x1024x1_0_1_2
      (Host.reduce FloatOps.maximumf s (constant S_ .f32 0xFF800000#32) reducesTo_S1x256x1024x1024_S1x256x1024_d3 h_S_))))

/-- The weights: each row divided by its sum, with one for the sum and zero for the weight where a row sees nothing. -/
def weightR (e : FVec Ideal S1x256x1024x1024 .f32) : FVec Ideal S1x256x1024x1024 .f32 :=
  select (broadcastInDim S1x256x1024x1024 ![0, 1, 2, 3] bcast_S1x1x1024x1_S1x256x1024x1024_0_1_2_3 (broadcastInDim S1x1x1024x1 ![2] bcast_S1024_S1x1x1024x1_2 keepR))
    (Host.divf e (broadcastInDim S1x256x1024x1024 ![0, 1, 2, 3] bcast_S1x256x1024x1_S1x256x1024x1024_0_1_2_3
      (select (broadcastInDim S1x256x1024x1 ![0, 1, 2, 3] bcast_S1x1x1024x1_S1x256x1024x1_0_1_2_3 (broadcastInDim S1x1x1024x1 ![2] bcast_S1024_S1x1x1024x1_2 keepR))
        (broadcastInDim S1x256x1024x1 ![0, 1, 2] bcast_S1x256x1024_S1x256x1024x1_0_1_2
          (Host.reduceAdd e (constant S_ .f32 0x00000000#32) reducesTo_S1x256x1024x1024_S1x256x1024_d3 h_S_))
        (broadcastInDim S1x256x1024x1 ![] bcast_S_S1x256x1024x1 (id (constant S_ .f32 0x3F800000#32))))))
    (broadcastInDim S1x256x1024x1024 ![] bcast_S_S1x256x1024x1024 (id (constant S_ .f32 0x00000000#32)))

/-- The contexts of all heads, side by side. -/
def ctxR (w : FVec Ideal S1x256x1024x1024 .f32) (v : FVec Ideal S1x1024x256x128 .f32) : FVec Ideal S1x1024x32768 .f32 :=
  shapeCast _ (transpose S1x1024x256x128 [0, 3, 1, 2]
    (Host.dotGeneral dot_S1x1024x256x128_S1x256x1024x1024_S1x256x128x1024_1_3_3_2_02_01 none v w)
    transposes_S1x256x128x1024_S1x1024x256x128_0_3_1_2) shapeCasts_S1x1024x256x128_S1x1024x32768

/-- The output projection. -/
def outR (t : FVec Ideal S1x1024x32768 .f32) (wo : FVec Ideal S32768x1024 .f32) : FVec Ideal S1x1024x1024 .f32 :=
  Host.dotGeneral dot_S1x1024x32768_S32768x1024_S1x1024x1024_2_0_01_1_n_n none t wo

set_option maxRecDepth 16384

/-- The mask at an index. -/
theorem maskR_apply (i j : Fin 1024) : maskR (ix2 i j) = near i j := by
  pointwise [maskR]
  rfl

/-- Every row sees its own column. -/
theorem near_self (i : Fin 1024) : near i i = 1#1 := by
  show IntOp.cmpi .sle (IntOp.absi (BitVec.ofNat 32 i.val - BitVec.ofNat 32 i.val)) 128#32 = 1#1
  rw [BitVec.sub_self]
  decide

theorem one_ori (z : BitVec 1) : IntOp.ori 1#1 z = 1#1 := by
  revert z
  decide

/-- So every row is kept. -/
theorem keepR_apply (i : Fin 1024) : keepR (ix1 i) = 1#1 := by
  pointwise [keepR]
  rw [← Finset.insert_erase (Finset.mem_univ i)]
  refine (Finset.fold_insert (op := IntOp.ori (w := 1)) (Finset.notMem_erase _ _)).trans ?_
  rw [maskR_apply, near_self]
  exact one_ori _

/-- The queries at an index. -/
theorem qryR_apply (x : FVec Ideal S1x1024x1024 .f32) (wq : FVec Ideal S1024x32768 .f32) (i : Fin 1024) (g : Fin 256) (d : Fin 128) :
    qryR x wq (ix4 0 i g d) = prod (fun a b => x (ix3 0 a b)) (fun a b => wq (ix2 a ⟨g.val * 128 + b.val, by omega⟩)) i d := by
  pointwise [qryR]
  rfl

/-- The masked scores at an index. -/
theorem scoreR_apply (q k : FVec Ideal S1x1024x256x128 .f32) (g : Fin 256) (i j : Fin 1024) :
    scoreR q k (ix4 0 g i j) = score (fun a b => q (ix4 0 a g b)) (fun a b => k (ix4 0 a g b)) i j := by
  pointwise [scoreR]
  rw [maskR_apply]
  rfl

/-- The exponentials at an index. -/
theorem expR_apply (s : FVec Ideal S1x256x1024x1024 .f32) (g : Fin 256) (i j : Fin 1024) :
    expR s (ix4 0 g i j) = expo (fun a b => s (ix4 0 g a b)) i j := by
  pointwise [expR]
  rfl

/-- The weights at an index. -/
theorem weightR_apply (s : FVec Ideal S1x256x1024x1024 .f32) (g : Fin 256) (i j : Fin 1024) :
    weightR s (ix4 0 g i j) = weight (fun a b => s (ix4 0 g a b)) i j := by
  pointwise [weightR]
  rw [keepR_apply]
  rfl

/-- The contexts at an index: the product stands in the other order. -/
theorem ctxR_apply (w : FVec Ideal S1x256x1024x1024 .f32) (v : FVec Ideal S1x1024x256x128 .f32) (g : Fin 256) (i : Fin 1024) (d : Fin 128) :
    ctxR w v (ix3 0 i ⟨g.val * 128 + d.val, by omega⟩) = prod (fun a b => w (ix4 0 g a b)) (fun a b => v (ix4 0 a g b)) i d := by
  pointwise [ctxR]
  exact Finset.sum_congr rfl fun _ _ => mul_comm _ _

/-- A sum over all columns of the context goes head by head. -/
theorem sum_heads (f : Fin 32768 → EReal) : ∑ x, f x = ∑ g : Fin 256, ∑ d : Fin 128, f ⟨g.val * 128 + d.val, by omega⟩ := by
  rw [← Fintype.sum_prod_type', ← Equiv.sum_comp (finProdFinEquiv : Fin 256 × Fin 128 ≃ Fin 32768)]
  refine Finset.sum_congr rfl fun p _ => congrArg f (Fin.ext ?_)
  show p.2.val + 128 * p.1.val = _
  rw [Nat.mul_comm, Nat.add_comm]

/-- The output projection at an index, head by head. -/
theorem outR_apply (t : FVec Ideal S1x1024x32768 .f32) (wo : FVec Ideal S32768x1024 .f32) (i n : Fin 1024) :
    outR t wo (ix3 0 i n)
      = ∑ g : Fin 256, prod (fun a (b : Fin 128) => t (ix3 0 a ⟨g.val * 128 + b.val, by omega⟩)) (fun (a : Fin 128) b => wo (ix2 ⟨g.val * 128 + a.val, by omega⟩ b)) i n := by
  pointwise [outR]
  exact sum_heads _

/-- All six stages at an index: the sum of the heads. -/
theorem stages_apply (x : FVec Ideal S1x1024x1024 .f32) (wq : FVec Ideal S1024x32768 .f32) (k v : FVec Ideal S1x1024x256x128 .f32)
    (wo : FVec Ideal S32768x1024 .f32) (i n : Fin 1024) :
    outR (ctxR (weightR (expR (scoreR (qryR x wq) k))) v) wo (ix3 0 i n)
      = ∑ g : Fin 256, head (fun a b => x (ix3 0 a b)) (fun a b => wq (ix2 a ⟨g.val * 128 + b.val, by omega⟩))
          (fun a b => k (ix4 0 a g b)) (fun a b => v (ix4 0 a g b)) (fun a b => wo (ix2 ⟨g.val * 128 + a.val, by omega⟩ b)) i n := by
  rw [outR_apply]
  simp only [ctxR_apply, weightR_apply, expR_apply, scoreR_apply, qryR_apply]
  rfl

end Cert.ReferenceIdeal.Attention
-- ==== Proof.Reference.lean ====
/- The reference's run: what its result holds at the end. -/
module

public import proofs.«01_k».proof.Proof.Gen.ReferenceIdeal.Run
public import proofs.«01_k».proof.Proof.RefStages

@[expose] public section

noncomputable section

namespace Cert.ReferenceIdeal.Attention

open Idealize.ShloMosaic Idealize.ShloMosaic.TcCoe
open Cert.ReferenceIdeal Cert.ReferenceIdeal.Gen Cert.HeadMath

/-- The reference's result is the six stages, one after the other. -/
theorem result_eq (m : (ℓ : Loc nD τ sig) → Buf (Elt Ideal) ℓ) (c : Dev nD) :
    Cert.ReferenceIdeal.Value.res_main_v34 (F := Ideal) m c
      = outR (ctxR (weightR (expR (scoreR (qryR (m ((c.tc : Thread nD τ).loc main_arg0)) (m ((c.tc : Thread nD τ).loc main_arg1)))
          (m ((c.tc : Thread nD τ).loc main_arg2))))) (m ((c.tc : Thread nD τ).loc main_arg3))) (m ((c.tc : Thread nD τ).loc main_arg4)) := by
  unfold Cert.ReferenceIdeal.Value.res_main_v34
  rfl

end Cert.ReferenceIdeal.Attention
-- ==== Proof.HeadValue.lean ====
/- One head's contribution, read at an index over the extended reals. -/
module

public import proofs.«01_k».proof.Proof.Local
public import proofs.«01_k».proof.Proof.HeadMath

@[expose] public section

noncomputable section

namespace Cert.KernelIdeal.RingProof

open Idealize.ShloMosaic
open Cert.KernelIdeal Cert.KernelIdeal.Gen Cert.HeadMath

def qryV (x : FVec Ideal S1024x1024 .f32) (w : Vec Ideal S1024x128 .f32) : FVec Ideal S1024x128 .f32 :=
  matmul dot_S1024x1024_S1024x128_S1024x128_1_0_0_1_n_n none x (shapeCast S1024x128 w shapeCasts_S1024x128_S1024x128 : FVec Ideal S1024x128 .f32) (constant S1024x128 .f32 0x00000000#32)
def scoreV (q : FVec Ideal S1024x128 .f32) (k : Vec Ideal S1024x1x128 .f32) : FVec Ideal S1024x1024 .f32 :=
  select k0_pay5 (mulf (matmul dot_S1024x128_S1024x128_S1024x1024_1_1_0_0_n_n none q (shapeCast S1024x128 k shapeCasts_S1024x1x128_S1024x128 : FVec Ideal S1024x128 .f32) (constant S1024x1024 .f32 0x00000000#32))
    (broadcast S1024x1024 (Scalar.ofBits .f32 0x3DB504F3#32))) (broadcast S1024x1024 (Scalar.ofBits .f32 0xCE6E6B28#32))
def expV (s : FVec Ideal S1024x1024 .f32) : FVec Ideal S1024x1024 .f32 :=
  exp (subf s (broadcastTo S1024x1024 (shapeCast S1024x1 (multiReduction .maximumf [1] S1024 s 0xFF800000#32 reduces_S1024x1024_S1024 (.inl rfl) rfl)
    shapeCasts_S1024_S1024x1) broadcasts_S1024x1_S1024x1024))
def weightV (e : FVec Ideal S1024x1024 .f32) : FVec Ideal S1024x1024 .f32 :=
  divf e (broadcastTo S1024x1024 (shapeCast S1024x1 (multiReduction .add [1] S1024 e 0x00000000#32 reduces_S1024x1024_S1024 (.inl rfl) rfl)
    shapeCasts_S1024_S1024x1) broadcasts_S1024x1_S1024x1024)
def ctxV (w : FVec Ideal S1024x1024 .f32) (v : Vec Ideal S1024x1x128 .f32) : FVec Ideal S1024x128 .f32 :=
  matmul dot_S1024x1024_S1024x128_S1024x128_1_0_0_1_n_n none w (shapeCast S1024x128 v shapeCasts_S1024x1x128_S1024x128 : FVec Ideal S1024x128 .f32) (constant S1024x128 .f32 0x00000000#32)
def outV (t : FVec Ideal S1024x128 .f32) (w : Vec Ideal S128x1024 .f32) : FVec Ideal S1024x1024 .f32 :=
  matmul dot_S1024x128_S128x1024_S1024x1024_1_0_0_1_n_n none t (shapeCast S128x1024 w shapeCasts_S128x1024_S128x1024 : FVec Ideal S128x1024 .f32) (constant S1024x1024 .f32 0x00000000#32)

theorem headOut_eq (x wq : Vec Ideal S1024x1024 .f32) (k v : Vec Ideal S1024x8x128 .f32) (wo : Vec Ideal S1024x1024 .f32) (h : Fin 8) :
    headOut (F := Ideal) x wq k v wo h
      = outV (ctxV (weightV (expV (scoreV (qryV x (headCols wq h)) (headOf k h)))) (headOf v h)) (headRows wo h) := rfl

set_option maxRecDepth 16384

/-- The queries at an index. -/
theorem qryV_apply (x : FVec Ideal S1024x1024 .f32) (w : Vec Ideal S1024x128 .f32) (i : Fin 1024) (d : Fin 128) :
    qryV x w (ix2 i d) = prod (fun a b => x (ix2 a b)) (fun a b => w (ix2 a b)) i d := by
  pointwise [qryV]
  rfl

/-- The masked scores at an index. -/
theorem scoreV_apply (q : FVec Ideal S1024x128 .f32) (k : Vec Ideal S1024x1x128 .f32) (i j : Fin 1024) :
    scoreV q k (ix2 i j) = score (fun a b => q (ix2 a b)) (fun a b => k (ix3 a 0 b)) i j := by
  pointwise [scoreV, k0_pay5]
  rfl

/-- The exponentials at an index. -/
theorem expV_apply (s : FVec Ideal S1024x1024 .f32) (i j : Fin 1024) :
    expV s (ix2 i j) = expo (fun a b => s (ix2 a b)) i j := by
  pointwise [expV]
  rfl

/-- The weights at an index. -/
theorem weightV_apply (s : FVec Ideal S1024x1024 .f32) (i j : Fin 1024) :
    weightV s (ix2 i j) = weight (fun a b => s (ix2 a b)) i j := by
  pointwise [weightV]
  rfl

/-- The context at an index. -/
theorem ctxV_apply (s : FVec Ideal S1024x1024 .f32) (k : Vec Ideal S1024x1x128 .f32) (i : Fin 1024) (d : Fin 128) :
    ctxV s k (ix2 i d) = prod (fun a b => s (ix2 a b)) (fun a b => k (ix3 a 0 b)) i d := by
  pointwise [ctxV]
  rfl

/-- The output projection at an index. -/
theorem outV_apply (s : FVec Ideal S1024x128 .f32) (k : Vec Ideal S128x1024 .f32) (i j : Fin 1024) :
    outV s k (ix2 i j) = prod (fun a b => s (ix2 a b)) (fun a b => k (ix2 a b)) i j := by
  pointwise [outV]
  rfl

/-- What the kernel adds for its head `h`, at an index. -/
theorem headOut_apply (x wq : Vec Ideal S1024x1024 .f32) (k v : Vec Ideal S1024x8x128 .f32) (wo : Vec Ideal S1024x1024 .f32)
    (h : Fin 8) (i j : Fin 1024) :
    headOut (F := Ideal) x wq k v wo h (ix2 i j)
      = head (fun a b => x (ix2 a b)) (fun a b => wq (ix2 a ⟨128 * h.val + b.val, by omega⟩))
          (fun a b => k (ix3 a h b)) (fun a b => v (ix3 a h b)) (fun a b => wo (ix2 ⟨128 * h.val + a.val, by omega⟩ b)) i j := by
  rw [headOut_eq, outV_apply]
  simp only [ctxV_apply, weightV_apply, expV_apply, scoreV_apply, qryV_apply]
  rfl

/-- What a device adds up over its eight heads, at an index. -/
theorem localOut_apply (x wq : Vec Ideal S1024x1024 .f32) (k v : Vec Ideal S1024x8x128 .f32) (wo : Vec Ideal S1024x1024 .f32)
    (i j : Fin 1024) :
    localOut (F := Ideal) x wq k v wo (ix2 i j) = ∑ h : Fin 8, headOut (F := Ideal) x wq k v wo h (ix2 i j) := by
  pointwise [localOut]
  rw [Fin.sum_univ_eight]

end Cert.KernelIdeal.RingProof
-- ==== Proof.RingSum.lean ====
/- What the ring adds up, over the extended reals: every chunk of the result is the sum of all devices' chunks. -/
module

public import proofs.«01_k».proof.Proof.Pieces
public import Idealize.ShloMosaic.PureOps.Ideal

@[expose] public section

noncomputable section

namespace Cert.KernelIdeal.RingProof

open Idealize.ShloMosaic
open Cert.KernelIdeal Cert.KernelIdeal.Gen

/-- What a device has accumulated of a chunk after `n` steps: its own part and those of the `n` devices before it. -/
theorem acc_apply (P : Parts Ideal) (n : ℕ) (c : Dev nD) (y : S32x1024.Idx) :
    acc P n c y = ∑ k ∈ Finset.range (n + 1), (ch P (dn c k) (dn c n) y : EReal) := by
  induction n generalizing c with
  | zero => rw [Finset.sum_range_one, dn_zero]; rfl
  | succ n ih =>
    rw [Finset.sum_range_succ', dn_zero]
    refine Eq.trans ?_ (add_comm _ _)
    show (ch P c (dn c (n + 1)) y + acc P n (dn c 1) y : EReal) = _
    rw [ih]
    refine congrArg (fun z : EReal => (ch P c (dn c (n + 1)) y : EReal) + z) (Finset.sum_congr rfl fun k _ => ?_)
    rw [dn_dn, dn_dn, Nat.add_comm 1 k, Nat.add_comm 1 n]

/-- Going down the ring from a device's neighbour meets every device once. -/
theorem dn_bijective (j : Dev nD) : Function.Bijective fun k : Fin 32 => dn j (1 + k.val) := by
  refine (Finite.injective_iff_bijective (α := Fin 32)).mp fun a b h => Fin.ext ?_
  have h := congrArg Fin.val h
  have := a.isLt; have := b.isLt; have := j.isLt
  simp only [dn_val, nD] at *; omega

/-- A finished chunk is the sum of all devices' chunks. -/
theorem fin_apply (P : Parts Ideal) (j : Dev nD) (y : S32x1024.Idx) : fin P j y = ∑ c : Dev nD, (ch P c j y : EReal) := by
  show acc P 31 (dn j 1) y = _
  rw [acc_apply, Finset.sum_range]
  refine Fintype.sum_bijective (fun k : Fin 32 => dn j (1 + k.val)) (dn_bijective j) _ _ fun k => ?_
  have e : dn (dn j 1) 31 = j := by
    rw [dn_dn]; exact (dn_add_32 j 0).trans (dn_zero j)
  rw [dn_dn, e]

theorem emb_within (i : S1024x1024.Idx) : (chunkR (chunkOf i)).emb (within i) = i := by
  have h0 : (((chunkR (chunkOf i)).emb (within i)) 0).val = (i 0).val := by
    rw [emb_row]; show 32 * ((i 0).val / 32) + (i 0).val % 32 = _; omega
  have h1 : (((chunkR (chunkOf i)).emb (within i)) 1).val = (i 1).val := by
    rw [emb_col]; rfl
  funext a
  match a with
  | ⟨0, _⟩ => exact Fin.ext h0
  | ⟨1, _⟩ => exact Fin.ext h1

/-- The result is the sum of the devices' parts. -/
theorem total_apply (P : Parts Ideal) (i : S1024x1024.Idx) : total P i = ∑ c : Dev nD, (P c i : EReal) := by
  show fin P (chunkOf i) (within i) = _
  rw [fin_apply]
  refine Finset.sum_congr rfl fun c _ => ?_
  exact congrArg (P c) (emb_within i)

end Cert.KernelIdeal.RingProof
-- ==== Proof.Operands.lean ====
/- What the host operations hand each device's kernel: its columns of the query weights, its rows of the output weights,
   and its own keys and values. -/
module

public import proofs.«01_k».proof.Proof.Region
public import Idealize.ShloMosaic.Lib.Pointwise
public import Idealize.ShloMosaic.PureOps.Ideal
public import Idealize.ShloMosaic.Lib.DynamicIndex

@[expose] public section

noncomputable section

namespace Cert.KernelIdeal.RingProof

open Idealize.ShloMosaic Idealize.ShloMosaic.TcCoe
open Cert.KernelIdeal Cert.KernelIdeal.Gen

/-! ## As arrays -/

variable (m : (ℓ : Loc nD τ sig) → Buf (Elt Ideal) ℓ)

set_option maxRecDepth 16384

/-- The start a device computes from its number: 1024 times it. -/
def startWord (c : Dev nD) : BitVec 32 :=
  Scalar.select (IntOp.cmpi .slt (IntOp.muli (IntOp.remui .host (IntOp.divui .host c.word 1#32) 32#32) 1024#32) 0#32)
    (IntOp.addi (IntOp.muli (IntOp.remui .host (IntOp.divui .host c.word 1#32) 32#32) 1024#32) 32768#32)
    (IntOp.muli (IntOp.remui .host (IntOp.divui .host c.word 1#32) 32#32) 1024#32)

theorem startWord_toInt : ∀ c : Dev nD, (startWord c).toInt = ((1024 * c.val : ℕ) : ℤ) := by
  decide

theorem v15_eq (c : Dev nD) : V1 m c main_v15 = shapeCast S1024x1024 (m ((c.tc : Thread nD τ).loc main_arg0)) shapeCasts_S1x1024x1024_S1024x1024 := by
  unfold V1 hostOps0
  after_results_simp
  rfl
theorem v16_eq (c : Dev nD) : V1 m c main_v16 = shapeCast S1024x8x128 (m ((c.tc : Thread nD τ).loc main_arg2)) shapeCasts_S1x1024x8x128_S1024x8x128 := by
  unfold V1 hostOps0
  after_results_simp
  rfl
theorem v17_eq (c : Dev nD) : V1 m c main_v17 = shapeCast S1024x8x128 (m ((c.tc : Thread nD τ).loc main_arg3)) shapeCasts_S1x1024x8x128_S1024x8x128 := by
  unfold V1 hostOps0
  after_results_simp
  rfl

theorem cols_fit (c : Dev nD) : S1024x32768.Slices ![0, 1024 * c.val] S1024x1024 := by
  revert c; decide
theorem rows_fit (c : Dev nD) : S32768x1024.Slices ![1024 * c.val, 0] S1024x1024 := by
  revert c; decide

theorem v9_eq (c : Dev nD) : V1 m c main_v9 = extractStridedSlice S1024x1024 ![0, 1024 * c.val] (m ((c.tc : Thread nD τ).loc main_arg1)) (cols_fit c) := by
  unfold V1 hostOps0
  after_results_simp
  refine (Host.dynamicSlice_eq_extractStridedSlice S1024x1024 (m ((c.tc : Thread nD τ).loc main_arg1)) _ ![0, 1024 * c.val] _ (cols_fit c) ?_)
  intro a
  match a with
  | ⟨0, _⟩ => rfl
  | ⟨1, _⟩ =>
    refine Eq.trans ?_ (startWord_toInt c)
    simp only [Fin.mk_one, Matrix.cons_val_one, Matrix.cons_val_zero, cast_eq]
    after_results_simp
    rfl

theorem v14_eq (c : Dev nD) : V1 m c main_v14 = extractStridedSlice S1024x1024 ![1024 * c.val, 0] (m ((c.tc : Thread nD τ).loc main_arg4)) (rows_fit c) := by
  unfold V1 hostOps0
  after_results_simp
  refine (Host.dynamicSlice_eq_extractStridedSlice S1024x1024 (m ((c.tc : Thread nD τ).loc main_arg4)) _ ![1024 * c.val, 0] _ (rows_fit c) ?_)
  intro a
  match a with
  | ⟨0, _⟩ =>
    refine Eq.trans ?_ (startWord_toInt c)
    simp only [Fin.zero_eta, Matrix.cons_val_zero, cast_eq]
    after_results_simp
    rfl
  | ⟨1, _⟩ => rfl

/-! ## At an index -/

theorem flat_apply (x : FVec Ideal S1x1024x1024 .f32) (a b : Fin 1024) :
    shapeCast S1024x1024 x shapeCasts_S1x1024x1024_S1024x1024 (ix2 a b) = x (ix3 0 a b) := by
  pointwise []

theorem cols_apply (c : Dev nD) (w : FVec Ideal S1024x32768 .f32) (a b : Fin 1024) :
    extractStridedSlice S1024x1024 ![0, 1024 * c.val] w (cols_fit c) (ix2 a b)
      = w (ix2 a ⟨1024 * c.val + b.val, by have h : c.val < 32 := c.isLt; omega⟩) := by
  pointwise []

theorem rows_apply (c : Dev nD) (w : FVec Ideal S32768x1024 .f32) (a b : Fin 1024) :
    extractStridedSlice S1024x1024 ![1024 * c.val, 0] w (rows_fit c) (ix2 a b)
      = w (ix2 ⟨1024 * c.val + a.val, by have h : c.val < 32 := c.isLt; omega⟩ b) := by
  pointwise []

theorem heads_apply (c : Dev nD) (K : FVec Ideal ⟨4, ![1, 1024, 256, 128]⟩ .f32) (a : Fin 1024) (h : Fin 8) (b : Fin 128) :
    shapeCast S1024x8x128 (Layout.block ⟨4, ![1, 1024, 8, 128]⟩ ⟨4, ![1, 1024, 256, 128]⟩ 2 32 c K : FVec Ideal S1x1024x8x128 .f32)
        shapeCasts_S1x1024x8x128_S1024x8x128 (ix3 a h b)
      = K (ix4 0 a ⟨8 * c.val + h.val, by have h : c.val < 32 := c.isLt; omega⟩ b) := by
  pointwise []
  refine congrArg K (funext fun ax => Fin.ext ?_)
  match ax with
  | ⟨0, _⟩ => rfl
  | ⟨1, _⟩ => rfl
  | ⟨2, _⟩ => show c.val * 8 + h.val = 8 * c.val + h.val; omega
  | ⟨3, _⟩ => rfl

end Cert.KernelIdeal.RingProof
-- ==== Proof.Equation.lean ====
/- The kernel's result is the sum of all heads, which is the reference's. -/
module

public import proofs.«01_k».proof.Proof.HeadValue
public import proofs.«01_k».proof.Proof.RingSum
public import proofs.«01_k».proof.Proof.Operands

@[expose] public section

noncomputable section

namespace Cert.KernelIdeal.RingProof

open Idealize.ShloMosaic Idealize.ShloMosaic.TcCoe
open Cert.KernelIdeal Cert.KernelIdeal.Gen Cert.HeadMath

variable (x : FVec Ideal ⟨3, ![1, 1024, 1024]⟩ .f32) (wq : FVec Ideal ⟨2, ![1024, 32768]⟩ .f32)
  (K V : FVec Ideal ⟨4, ![1, 1024, 256, 128]⟩ .f32) (wo : FVec Ideal ⟨2, ![32768, 1024]⟩ .f32)

/-- Head `g` of all 256, on the whole arrays. -/
def headAt (g : Fin 256) : Table 1024 1024 :=
  head (fun a b => x (ix3 0 a b)) (fun a b => wq (ix2 a ⟨g.val * 128 + b.val, by omega⟩)) (fun a b => K (ix4 0 a g b))
    (fun a b => V (ix4 0 a g b)) (fun a b => wo (ix2 ⟨g.val * 128 + a.val, by omega⟩ b))

/-- Device `c`'s head `h` among all heads. -/
def headNo (c : Dev nD) (h : Fin 8) : Fin 256 := ⟨8 * c.val + h.val, by have h : c.val < 32 := c.isLt; omega⟩

/-- What a device adds up is its eight heads of all. -/
theorem local_apply (c : Dev nD) (i n : Fin 1024) :
    localOut (F := Ideal) (shapeCast S1024x1024 x shapeCasts_S1x1024x1024_S1024x1024) (extractStridedSlice S1024x1024 ![0, 1024 * c.val] wq (cols_fit c))
        (shapeCast S1024x8x128 (Layout.block ⟨4, ![1, 1024, 8, 128]⟩ ⟨4, ![1, 1024, 256, 128]⟩ 2 32 c K : FVec Ideal S1x1024x8x128 .f32) shapeCasts_S1x1024x8x128_S1024x8x128)
        (shapeCast S1024x8x128 (Layout.block ⟨4, ![1, 1024, 8, 128]⟩ ⟨4, ![1, 1024, 256, 128]⟩ 2 32 c V : FVec Ideal S1x1024x8x128 .f32) shapeCasts_S1x1024x8x128_S1024x8x128)
        (extractStridedSlice S1024x1024 ![1024 * c.val, 0] wo (rows_fit c)) (ix2 i n)
      = ∑ h : Fin 8, headAt x wq K V wo (headNo c h) i n := by
  rw [localOut_apply]
  refine Finset.sum_congr rfl fun h _ => ?_
  rw [headOut_apply]
  have e1 : (fun a b => shapeCast S1024x1024 x shapeCasts_S1x1024x1024_S1024x1024 (ix2 a b) : Table 1024 1024) = fun a b => x (ix3 0 a b) :=
    funext fun a => funext fun b => flat_apply x a b
  have e2 : (fun a b => extractStridedSlice S1024x1024 ![0, 1024 * c.val] wq (cols_fit c) (ix2 a ⟨128 * h.val + b.val, by omega⟩) : Table 1024 128)
      = fun a b => wq (ix2 a ⟨(headNo c h).val * 128 + b.val, by omega⟩) :=
    funext fun a => funext fun b => (cols_apply c wq a _).trans (congrArg (fun z => wq (ix2 a z)) (Fin.ext (by
      show 1024 * c.val + (128 * h.val + b.val) = (8 * c.val + h.val) * 128 + b.val; omega)))
  have e5 : (fun a b => extractStridedSlice S1024x1024 ![1024 * c.val, 0] wo (rows_fit c) (ix2 ⟨128 * h.val + a.val, by omega⟩ b) : Table 128 1024)
      = fun a b => wo (ix2 ⟨(headNo c h).val * 128 + a.val, by omega⟩ b) :=
    funext fun a => funext fun b => (rows_apply c wo _ b).trans (congrArg (fun z => wo (ix2 z b)) (Fin.ext (by
      show 1024 * c.val + (128 * h.val + a.val) = (8 * c.val + h.val) * 128 + a.val; omega)))
  have e3 := fun K : FVec Ideal ⟨4, ![1, 1024, 256, 128]⟩ .f32 => (funext fun a => funext fun b => heads_apply c K a h b :
    (fun a b => shapeCast S1024x8x128 (Layout.block ⟨4, ![1, 1024, 8, 128]⟩ ⟨4, ![1, 1024, 256, 128]⟩ 2 32 c K : FVec Ideal S1x1024x8x128 .f32)
      shapeCasts_S1x1024x8x128_S1024x8x128 (ix3 a h b) : Table 1024 128) = fun a b => K (ix4 0 a (headNo c h) b))
  rw [e1, e2, e3, e3, e5]
  rfl

/-- The heads, device by device. -/
theorem sum_devices (f : Fin 256 → EReal) : ∑ c : Dev nD, ∑ h : Fin 8, f (headNo c h) = ∑ g, f g := by
  rw [← Fintype.sum_prod_type']
  refine (Finset.sum_congr rfl fun p _ => congrArg f (Fin.ext ?_)).trans (Equiv.sum_comp (finProdFinEquiv : Fin 32 × Fin 8 ≃ Fin 256) f)
  show 8 * p.1.val + p.2.val = p.2.val + 8 * p.1.val
  omega

variable (m : (ℓ : Loc nD τ sig) → Buf (Elt Ideal) ℓ)

/-- On devices that hold copies of `x`, `wq` and `wo` and their blocks of `K` and `V`, every device ends with the sum of all heads. -/
theorem total_parts
    (h0 : ∀ c : Dev nD, m ((c.tc : Thread nD τ).loc main_arg0) = x) (h1 : ∀ c : Dev nD, m ((c.tc : Thread nD τ).loc main_arg1) = wq)
    (h2 : ∀ c : Dev nD, m ((c.tc : Thread nD τ).loc main_arg2) = Layout.block ⟨4, ![1, 1024, 8, 128]⟩ ⟨4, ![1, 1024, 256, 128]⟩ 2 32 c K)
    (h3 : ∀ c : Dev nD, m ((c.tc : Thread nD τ).loc main_arg3) = Layout.block ⟨4, ![1, 1024, 8, 128]⟩ ⟨4, ![1, 1024, 256, 128]⟩ 2 32 c V)
    (h4 : ∀ c : Dev nD, m ((c.tc : Thread nD τ).loc main_arg4) = wo) (i n : Fin 1024) :
    total (parts m) (ix2 i n) = ∑ g, headAt x wq K V wo g i n := by
  rw [total_apply, ← sum_devices]
  refine Finset.sum_congr rfl fun c _ => (Eq.trans ?_ (local_apply x wq K V wo c i n))
  unfold parts
  rw [v15_eq, v9_eq, v16_eq, v17_eq, v14_eq, h0, h1, h2, h3, h4]

end Cert.KernelIdeal.RingProof
-- ==== Proof.Same.lean ====
/- The kernel as printed and its idealized text are one text: no rule of the idealization applied. -/
module

public import proofs.«01_k».proof.Proof.Gen.Kernel
public import proofs.«01_k».proof.Proof.Gen.KernelIdeal
public import Idealize.ShloMosaic.PureOps.BitExact

@[expose] public section

noncomputable section

namespace Cert.Same

open Idealize.ShloMosaic Idealize.SL.Sem

theorem body_same : Cert.Kernel.cc0_body (F := Bits) = Cert.KernelIdeal.cc0_body (F := Bits) := rfl

theorem table_same : Cert.Kernel.defs₀ (F := Bits) = Cert.KernelIdeal.defs₀ (F := Bits) := by
  refine congrArg Defs.onTc (funext fun l => funext fun x => ?_)
  match l, x with
  | ⟨0, _⟩, (t, s) => rfl

theorem defs_same : Cert.Kernel.defs (F := Bits) = Cert.KernelIdeal.defs (F := Bits) :=
  congrArg (Pipeline.defs Cert.KernelIdeal.pcfgs) table_same

theorem main_same : Cert.Kernel.main (F := Bits) = Cert.KernelIdeal.main (F := Bits) := rfl

end Cert.Same
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Reference
public import proofs.«01_k».proof.Proof.Equation
public import proofs.«01_k».proof.Proof.Same

@[expose] public section

noncomputable section

namespace Cert.Proof

open Idealize.ShloMosaic Idealize.SL.Sem Cert.Kernel

/-- The idealized kernel ends on every device with its arguments unchanged and every counter at zero. -/
theorem frame_kernelIdeal : Cert.quiescent_KernelIdeal := fun m ρ _ =>
  (θ_run Cert.KernelIdeal.defs _ _).mono (fun _ h => ⟨fun c => (h.1 c).2, h.2⟩) (Cert.KernelIdeal.RingProof.run_main (F := Ideal) m ρ)

/-- What the kernel's frame says of a final state. -/
def Unchanged (m : (ℓ : Loc Cert.KernelIdeal.nD Cert.KernelIdeal.τ Cert.KernelIdeal.sig) → Buf (Elt Bits) ℓ)
    (s : MemSt Cert.KernelIdeal.nD Cert.KernelIdeal.τ Cert.KernelIdeal.sig (Elt Bits)) : Prop :=
  (∀ c : Dev Cert.KernelIdeal.nD,
      s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ s.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ s.mem ((c.tc : Thread Cert.KernelIdeal.nD Cert.KernelIdeal.τ).loc Cert.KernelIdeal.main_arg4) = m ((c.tc : Thread Cert.KernelIdeal.nD Cert.KernelIdeal.τ).loc Cert.KernelIdeal.main_arg4))
    ∧ s.sem = fun _ => 0

/-- The run at machine floats, without its result: arguments unchanged, every counter at zero. -/
theorem frame_bits (m : (ℓ : Loc Cert.KernelIdeal.nD Cert.KernelIdeal.τ Cert.KernelIdeal.sig) → Buf (Elt Bits) ℓ)
    (ρ : Dev Cert.KernelIdeal.nD → PrngReg) :
    θ_run (Cert.KernelIdeal.defs (F := Bits)) (onTc (τ := Cert.KernelIdeal.τ) (Cert.KernelIdeal.main (F := Bits))) ⟨m, fun _ => 0, ρ⟩
      (fun r => Unchanged m r.2) :=
  (θ_run Cert.KernelIdeal.defs _ _).mono (fun _ h => ⟨fun c => (h.1 c).2, h.2⟩) (Cert.KernelIdeal.RingProof.run_main (F := Bits) m ρ)

/-- The kernel as printed runs as the idealized text does: the two are one text, and the run is proved for any floats. -/
theorem frame_kernel : Cert.quiescent_Kernel := fun m ρ _ => by
  rw [Cert.Same.main_same, Cert.Same.defs_same]
  exact frame_bits m ρ

/-- The reference runs its operations and declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- Every device's result is the reference's. -/
theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h0 : ∀ c : Dev Cert.KernelIdeal.nD, m ((c.tc : Thread Cert.KernelIdeal.nD Cert.KernelIdeal.τ).loc Cert.KernelIdeal.main_arg0)
      = m' (((0 : Dev Cert.ReferenceIdeal.nD).tc : Thread Cert.ReferenceIdeal.nD Cert.ReferenceIdeal.τ).loc Cert.ReferenceIdeal.main_arg0))
    (h1 : ∀ c : Dev Cert.KernelIdeal.nD, m ((c.tc : Thread Cert.KernelIdeal.nD Cert.KernelIdeal.τ).loc Cert.KernelIdeal.main_arg1)
      = m' (((0 : Dev Cert.ReferenceIdeal.nD).tc : Thread Cert.ReferenceIdeal.nD Cert.ReferenceIdeal.τ).loc Cert.ReferenceIdeal.main_arg1))
    (h2 : ∀ c : Dev Cert.KernelIdeal.nD, m ((c.tc : Thread Cert.KernelIdeal.nD Cert.KernelIdeal.τ).loc Cert.KernelIdeal.main_arg2)
      = Layout.block ⟨4, ![1, 1024, 8, 128]⟩ ⟨4, ![1, 1024, 256, 128]⟩ 2 32 c
        (m' (((0 : Dev Cert.ReferenceIdeal.nD).tc : Thread Cert.ReferenceIdeal.nD Cert.ReferenceIdeal.τ).loc Cert.ReferenceIdeal.main_arg2)))
    (h3 : ∀ c : Dev Cert.KernelIdeal.nD, m ((c.tc : Thread Cert.KernelIdeal.nD Cert.KernelIdeal.τ).loc Cert.KernelIdeal.main_arg3)
      = Layout.block ⟨4, ![1, 1024, 8, 128]⟩ ⟨4, ![1, 1024, 256, 128]⟩ 2 32 c
        (m' (((0 : Dev Cert.ReferenceIdeal.nD).tc : Thread Cert.ReferenceIdeal.nD Cert.ReferenceIdeal.τ).loc Cert.ReferenceIdeal.main_arg3)))
    (h4 : ∀ c : Dev Cert.KernelIdeal.nD, m ((c.tc : Thread Cert.KernelIdeal.nD Cert.KernelIdeal.τ).loc Cert.KernelIdeal.main_arg4)
      = m' (((0 : Dev Cert.ReferenceIdeal.nD).tc : Thread Cert.ReferenceIdeal.nD Cert.ReferenceIdeal.τ).loc Cert.ReferenceIdeal.main_arg4)) :
    broadcastInDim Cert.KernelIdeal.S1x1024x1024 ![1, 2] Cert.KernelIdeal.Gen.bcast_S1024x1024_S1x1024x1024_1_2
        (Cert.KernelIdeal.RingProof.total (Cert.KernelIdeal.RingProof.parts m)) = Cert.ReferenceIdeal.Value.res_main_v34 (F := Ideal) m' 0 := by
  rw [Cert.ReferenceIdeal.Attention.result_eq]
  funext j
  obtain ⟨a, i, n, rfl⟩ : ∃ (a : Fin 1) (i n : Fin 1024), j = ix3 a i n := ⟨j 0, j 1, j 2, eq_ix3 j⟩
  obtain rfl : a = 0 := Subsingleton.elim _ _
  refine Eq.trans ?_ (Cert.ReferenceIdeal.Attention.stages_apply _ _ _ _ _ i n).symm
  exact Cert.KernelIdeal.RingProof.total_parts _ _ _ _ _ m h0 h1 h2 h3 h4 i n

/-- Over the extended reals every device ends with the reference's result. -/
theorem algebraic : Cert.algebraic_KernelIdeal_ReferenceIdeal := by
  intro m ρ m' ρ' _ h
  have hv := value m m' (fun c => (h c).1) (fun c => (h c).2.1) (fun c => (h c).2.2.1) (fun c => (h c).2.2.2.1) (fun c => (h c).2.2.2.2)
  refine ⟨Cert.ReferenceIdeal.Value.res_main_v34 (F := Ideal) m' 0, ?_, ?_⟩
  · exact (θ_run Cert.KernelIdeal.defs _ _).mono (fun r hr c => ⟨(hr.1 c).1.trans hv, (hr.1 c).2⟩)
      (Cert.KernelIdeal.RingProof.run_main (F := Ideal) m ρ)
  · exact (θ_run Cert.ReferenceIdeal.defs _ _).mono (fun r hr => hr 0) (Cert.ReferenceIdeal.Value.run (F := Ideal) m' ρ')

/-- All five claims. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
